-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S32x512 : Shape := ⟨2, ![32, 512]⟩
abbrev S32 : Shape := ⟨1, ![32]⟩
abbrev S_ : Shape := ⟨0, ![]⟩
abbrev S512 : Shape := ⟨1, ![512]⟩
abbrev S1x512 : Shape := ⟨2, ![1, 512]⟩
abbrev S1 : Shape := ⟨1, ![1]⟩
abbrev S32x1 : Shape := ⟨2, ![32, 1]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 1 := Scalar.cmpi .sge v2 c1_i32_0
  let v5 : BitVec 32 := Scalar.extui v4
  let c0_i32 : BitVec 32 := 0#32
  let v6 : BitVec 1 := Scalar.cmpi .ne v5 c0_i32
  v6

def k0_dev1 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_570 : BitVec 32 := 1#32
  let v592 : BitVec 32 := Scalar.subi v2 c1_i32_570
  let c1_i32_572 : BitVec 32 := 1#32
  let v593 : BitVec 32 := Scalar.muli v592 c1_i32_572
  let v594 : BitVec 32 := Scalar.addi c0_i32_573 v593
  v594.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 1 := Scalar.cmpi .sge v2 c2_i32
  let v8 : BitVec 32 := Scalar.extui v7
  let c0_i32_1 : BitVec 32 := 0#32
  let v9 : BitVec 1 := Scalar.cmpi .ne v8 c0_i32_1
  v9

def k0_dev2 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_570 : BitVec 32 := 2#32
  let v592 : BitVec 32 := Scalar.subi v2 c2_i32_570
  let c1_i32_572 : BitVec 32 := 1#32
  let v593 : BitVec 32 := Scalar.muli v592 c1_i32_572
  let v594 : BitVec 32 := Scalar.addi c0_i32_573 v593
  v594.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 1 := Scalar.cmpi .sge v2 c3_i32
  let v11 : BitVec 32 := Scalar.extui v10
  let c0_i32_2 : BitVec 32 := 0#32
  let v12 : BitVec 1 := Scalar.cmpi .ne v11 c0_i32_2
  v12

def k0_dev3 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_570 : BitVec 32 := 3#32
  let v592 : BitVec 32 := Scalar.subi v2 c3_i32_570
  let c1_i32_572 : BitVec 32 := 1#32
  let v593 : BitVec 32 := Scalar.muli v592 c1_i32_572
  let v594 : BitVec 32 := Scalar.addi c0_i32_573 v593
  v594.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 1 := Scalar.cmpi .sge v2 c4_i32
  let v14 : BitVec 32 := Scalar.extui v13
  let c0_i32_3 : BitVec 32 := 0#32
  let v15 : BitVec 1 := Scalar.cmpi .ne v14 c0_i32_3
  v15

def k0_dev4 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_570 : BitVec 32 := 4#32
  let v592 : BitVec 32 := Scalar.subi v2 c4_i32_570
  let c1_i32_572 : BitVec 32 := 1#32
  let v593 : BitVec 32 := Scalar.muli v592 c1_i32_572
  let v594 : BitVec 32 := Scalar.addi c0_i32_573 v593
  v594.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v16 : BitVec 1 := Scalar.cmpi .sge v2 c5_i32
  let v17 : BitVec 32 := Scalar.extui v16
  let c0_i32_4 : BitVec 32 := 0#32
  let v18 : BitVec 1 := Scalar.cmpi .ne v17 c0_i32_4
  v18

def k0_dev5 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_570 : BitVec 32 := 5#32
  let v592 : BitVec 32 := Scalar.subi v2 c5_i32_570
  let c1_i32_572 : BitVec 32 := 1#32
  let v593 : BitVec 32 := Scalar.muli v592 c1_i32_572
  let v594 : BitVec 32 := Scalar.addi c0_i32_573 v593
  v594.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v19 : BitVec 1 := Scalar.cmpi .sge v2 c6_i32
  let v20 : BitVec 32 := Scalar.extui v19
  let c0_i32_5 : BitVec 32 := 0#32
  let v21 : BitVec 1 := Scalar.cmpi .ne v20 c0_i32_5
  v21

def k0_dev6 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_570 : BitVec 32 := 6#32
  let v592 : BitVec 32 := Scalar.subi v2 c6_i32_570
  let c1_i32_572 : BitVec 32 := 1#32
  let v593 : BitVec 32 := Scalar.muli v592 c1_i32_572
  let v594 : BitVec 32 := Scalar.addi c0_i32_573 v593
  v594.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v22 : BitVec 1 := Scalar.cmpi .sge v2 c7_i32
  let v23 : BitVec 32 := Scalar.extui v22
  let c0_i32_6 : BitVec 32 := 0#32
  let v24 : BitVec 1 := Scalar.cmpi .ne v23 c0_i32_6
  v24

def k0_dev7 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_570 : BitVec 32 := 7#32
  let v592 : BitVec 32 := Scalar.subi v2 c7_i32_570
  let c1_i32_572 : BitVec 32 := 1#32
  let v593 : BitVec 32 := Scalar.muli v592 c1_i32_572
  let v594 : BitVec 32 := Scalar.addi c0_i32_573 v593
  v594.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v25 : BitVec 1 := Scalar.cmpi .sge v2 c8_i32
  let v26 : BitVec 32 := Scalar.extui v25
  let c0_i32_7 : BitVec 32 := 0#32
  let v27 : BitVec 1 := Scalar.cmpi .ne v26 c0_i32_7
  v27

def k0_dev8 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_570 : BitVec 32 := 8#32
  let v592 : BitVec 32 := Scalar.subi v2 c8_i32_570
  let c1_i32_572 : BitVec 32 := 1#32
  let v593 : BitVec 32 := Scalar.muli v592 c1_i32_572
  let v594 : BitVec 32 := Scalar.addi c0_i32_573 v593
  v594.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v28 : BitVec 1 := Scalar.cmpi .sge v2 c9_i32
  let v29 : BitVec 32 := Scalar.extui v28
  let c0_i32_8 : BitVec 32 := 0#32
  let v30 : BitVec 1 := Scalar.cmpi .ne v29 c0_i32_8
  v30

def k0_dev9 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_570 : BitVec 32 := 9#32
  let v592 : BitVec 32 := Scalar.subi v2 c9_i32_570
  let c1_i32_572 : BitVec 32 := 1#32
  let v593 : BitVec 32 := Scalar.muli v592 c1_i32_572
  let v594 : BitVec 32 := Scalar.addi c0_i32_573 v593
  v594.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v31 : BitVec 1 := Scalar.cmpi .sge v2 c10_i32
  let v32 : BitVec 32 := Scalar.extui v31
  let c0_i32_9 : BitVec 32 := 0#32
  let v33 : BitVec 1 := Scalar.cmpi .ne v32 c0_i32_9
  v33

def k0_dev10 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_570 : BitVec 32 := 10#32
  let v592 : BitVec 32 := Scalar.subi v2 c10_i32_570
  let c1_i32_572 : BitVec 32 := 1#32
  let v593 : BitVec 32 := Scalar.muli v592 c1_i32_572
  let v594 : BitVec 32 := Scalar.addi c0_i32_573 v593
  v594.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v34 : BitVec 1 := Scalar.cmpi .sge v2 c11_i32
  let v35 : BitVec 32 := Scalar.extui v34
  let c0_i32_10 : BitVec 32 := 0#32
  let v36 : BitVec 1 := Scalar.cmpi .ne v35 c0_i32_10
  v36

def k0_dev11 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_570 : BitVec 32 := 11#32
  let v592 : BitVec 32 := Scalar.subi v2 c11_i32_570
  let c1_i32_572 : BitVec 32 := 1#32
  let v593 : BitVec 32 := Scalar.muli v592 c1_i32_572
  let v594 : BitVec 32 := Scalar.addi c0_i32_573 v593
  v594.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v37 : BitVec 1 := Scalar.cmpi .sge v2 c12_i32
  let v38 : BitVec 32 := Scalar.extui v37
  let c0_i32_11 : BitVec 32 := 0#32
  let v39 : BitVec 1 := Scalar.cmpi .ne v38 c0_i32_11
  v39

def k0_dev12 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_570 : BitVec 32 := 12#32
  let v592 : BitVec 32 := Scalar.subi v2 c12_i32_570
  let c1_i32_572 : BitVec 32 := 1#32
  let v593 : BitVec 32 := Scalar.muli v592 c1_i32_572
  let v594 : BitVec 32 := Scalar.addi c0_i32_573 v593
  v594.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v40 : BitVec 1 := Scalar.cmpi .sge v2 c13_i32
  let v41 : BitVec 32 := Scalar.extui v40
  let c0_i32_12 : BitVec 32 := 0#32
  let v42 : BitVec 1 := Scalar.cmpi .ne v41 c0_i32_12
  v42

def k0_dev13 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_570 : BitVec 32 := 13#32
  let v592 : BitVec 32 := Scalar.subi v2 c13_i32_570
  let c1_i32_572 : BitVec 32 := 1#32
  let v593 : BitVec 32 := Scalar.muli v592 c1_i32_572
  let v594 : BitVec 32 := Scalar.addi c0_i32_573 v593
  v594.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v43 : BitVec 1 := Scalar.cmpi .sge v2 c14_i32
  let v44 : BitVec 32 := Scalar.extui v43
  let c0_i32_13 : BitVec 32 := 0#32
  let v45 : BitVec 1 := Scalar.cmpi .ne v44 c0_i32_13
  v45

def k0_dev14 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_570 : BitVec 32 := 14#32
  let v592 : BitVec 32 := Scalar.subi v2 c14_i32_570
  let c1_i32_572 : BitVec 32 := 1#32
  let v593 : BitVec 32 := Scalar.muli v592 c1_i32_572
  let v594 : BitVec 32 := Scalar.addi c0_i32_573 v593
  v594.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v46 : BitVec 1 := Scalar.cmpi .sge v2 c15_i32
  let v47 : BitVec 32 := Scalar.extui v46
  let c0_i32_14 : BitVec 32 := 0#32
  let v48 : BitVec 1 := Scalar.cmpi .ne v47 c0_i32_14
  v48

def k0_dev15 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_570 : BitVec 32 := 15#32
  let v592 : BitVec 32 := Scalar.subi v2 c15_i32_570
  let c1_i32_572 : BitVec 32 := 1#32
  let v593 : BitVec 32 := Scalar.muli v592 c1_i32_572
  let v594 : BitVec 32 := Scalar.addi c0_i32_573 v593
  v594.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v49 : BitVec 1 := Scalar.cmpi .sge v2 c16_i32
  let v50 : BitVec 32 := Scalar.extui v49
  let c0_i32_15 : BitVec 32 := 0#32
  let v51 : BitVec 1 := Scalar.cmpi .ne v50 c0_i32_15
  v51

def k0_dev16 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_570 : BitVec 32 := 16#32
  let v592 : BitVec 32 := Scalar.subi v2 c16_i32_570
  let c1_i32_572 : BitVec 32 := 1#32
  let v593 : BitVec 32 := Scalar.muli v592 c1_i32_572
  let v594 : BitVec 32 := Scalar.addi c0_i32_573 v593
  v594.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v52 : BitVec 1 := Scalar.cmpi .sge v2 c17_i32
  let v53 : BitVec 32 := Scalar.extui v52
  let c0_i32_16 : BitVec 32 := 0#32
  let v54 : BitVec 1 := Scalar.cmpi .ne v53 c0_i32_16
  v54

def k0_dev17 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_570 : BitVec 32 := 17#32
  let v592 : BitVec 32 := Scalar.subi v2 c17_i32_570
  let c1_i32_572 : BitVec 32 := 1#32
  let v593 : BitVec 32 := Scalar.muli v592 c1_i32_572
  let v594 : BitVec 32 := Scalar.addi c0_i32_573 v593
  v594.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v55 : BitVec 1 := Scalar.cmpi .sge v2 c18_i32
  let v56 : BitVec 32 := Scalar.extui v55
  let c0_i32_17 : BitVec 32 := 0#32
  let v57 : BitVec 1 := Scalar.cmpi .ne v56 c0_i32_17
  v57

def k0_dev18 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_570 : BitVec 32 := 18#32
  let v592 : BitVec 32 := Scalar.subi v2 c18_i32_570
  let c1_i32_572 : BitVec 32 := 1#32
  let v593 : BitVec 32 := Scalar.muli v592 c1_i32_572
  let v594 : BitVec 32 := Scalar.addi c0_i32_573 v593
  v594.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v58 : BitVec 1 := Scalar.cmpi .sge v2 c19_i32
  let v59 : BitVec 32 := Scalar.extui v58
  let c0_i32_18 : BitVec 32 := 0#32
  let v60 : BitVec 1 := Scalar.cmpi .ne v59 c0_i32_18
  v60

def k0_dev19 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_570 : BitVec 32 := 19#32
  let v592 : BitVec 32 := Scalar.subi v2 c19_i32_570
  let c1_i32_572 : BitVec 32 := 1#32
  let v593 : BitVec 32 := Scalar.muli v592 c1_i32_572
  let v594 : BitVec 32 := Scalar.addi c0_i32_573 v593
  v594.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v61 : BitVec 1 := Scalar.cmpi .sge v2 c20_i32
  let v62 : BitVec 32 := Scalar.extui v61
  let c0_i32_19 : BitVec 32 := 0#32
  let v63 : BitVec 1 := Scalar.cmpi .ne v62 c0_i32_19
  v63

def k0_dev20 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_570 : BitVec 32 := 20#32
  let v592 : BitVec 32 := Scalar.subi v2 c20_i32_570
  let c1_i32_572 : BitVec 32 := 1#32
  let v593 : BitVec 32 := Scalar.muli v592 c1_i32_572
  let v594 : BitVec 32 := Scalar.addi c0_i32_573 v593
  v594.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v64 : BitVec 1 := Scalar.cmpi .sge v2 c21_i32
  let v65 : BitVec 32 := Scalar.extui v64
  let c0_i32_20 : BitVec 32 := 0#32
  let v66 : BitVec 1 := Scalar.cmpi .ne v65 c0_i32_20
  v66

def k0_dev21 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_570 : BitVec 32 := 21#32
  let v592 : BitVec 32 := Scalar.subi v2 c21_i32_570
  let c1_i32_572 : BitVec 32 := 1#32
  let v593 : BitVec 32 := Scalar.muli v592 c1_i32_572
  let v594 : BitVec 32 := Scalar.addi c0_i32_573 v593
  v594.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v67 : BitVec 1 := Scalar.cmpi .sge v2 c22_i32
  let v68 : BitVec 32 := Scalar.extui v67
  let c0_i32_21 : BitVec 32 := 0#32
  let v69 : BitVec 1 := Scalar.cmpi .ne v68 c0_i32_21
  v69

def k0_dev22 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_570 : BitVec 32 := 22#32
  let v592 : BitVec 32 := Scalar.subi v2 c22_i32_570
  let c1_i32_572 : BitVec 32 := 1#32
  let v593 : BitVec 32 := Scalar.muli v592 c1_i32_572
  let v594 : BitVec 32 := Scalar.addi c0_i32_573 v593
  v594.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v70 : BitVec 1 := Scalar.cmpi .sge v2 c23_i32
  let v71 : BitVec 32 := Scalar.extui v70
  let c0_i32_22 : BitVec 32 := 0#32
  let v72 : BitVec 1 := Scalar.cmpi .ne v71 c0_i32_22
  v72

def k0_dev23 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_570 : BitVec 32 := 23#32
  let v592 : BitVec 32 := Scalar.subi v2 c23_i32_570
  let c1_i32_572 : BitVec 32 := 1#32
  let v593 : BitVec 32 := Scalar.muli v592 c1_i32_572
  let v594 : BitVec 32 := Scalar.addi c0_i32_573 v593
  v594.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v73 : BitVec 1 := Scalar.cmpi .sge v2 c24_i32
  let v74 : BitVec 32 := Scalar.extui v73
  let c0_i32_23 : BitVec 32 := 0#32
  let v75 : BitVec 1 := Scalar.cmpi .ne v74 c0_i32_23
  v75

def k0_dev24 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_570 : BitVec 32 := 24#32
  let v592 : BitVec 32 := Scalar.subi v2 c24_i32_570
  let c1_i32_572 : BitVec 32 := 1#32
  let v593 : BitVec 32 := Scalar.muli v592 c1_i32_572
  let v594 : BitVec 32 := Scalar.addi c0_i32_573 v593
  v594.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v76 : BitVec 1 := Scalar.cmpi .sge v2 c25_i32
  let v77 : BitVec 32 := Scalar.extui v76
  let c0_i32_24 : BitVec 32 := 0#32
  let v78 : BitVec 1 := Scalar.cmpi .ne v77 c0_i32_24
  v78

def k0_dev25 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_570 : BitVec 32 := 25#32
  let v592 : BitVec 32 := Scalar.subi v2 c25_i32_570
  let c1_i32_572 : BitVec 32 := 1#32
  let v593 : BitVec 32 := Scalar.muli v592 c1_i32_572
  let v594 : BitVec 32 := Scalar.addi c0_i32_573 v593
  v594.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v79 : BitVec 1 := Scalar.cmpi .sge v2 c26_i32
  let v80 : BitVec 32 := Scalar.extui v79
  let c0_i32_25 : BitVec 32 := 0#32
  let v81 : BitVec 1 := Scalar.cmpi .ne v80 c0_i32_25
  v81

def k0_dev26 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_570 : BitVec 32 := 26#32
  let v592 : BitVec 32 := Scalar.subi v2 c26_i32_570
  let c1_i32_572 : BitVec 32 := 1#32
  let v593 : BitVec 32 := Scalar.muli v592 c1_i32_572
  let v594 : BitVec 32 := Scalar.addi c0_i32_573 v593
  v594.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v82 : BitVec 1 := Scalar.cmpi .sge v2 c27_i32
  let v83 : BitVec 32 := Scalar.extui v82
  let c0_i32_26 : BitVec 32 := 0#32
  let v84 : BitVec 1 := Scalar.cmpi .ne v83 c0_i32_26
  v84

def k0_dev27 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_570 : BitVec 32 := 27#32
  let v592 : BitVec 32 := Scalar.subi v2 c27_i32_570
  let c1_i32_572 : BitVec 32 := 1#32
  let v593 : BitVec 32 := Scalar.muli v592 c1_i32_572
  let v594 : BitVec 32 := Scalar.addi c0_i32_573 v593
  v594.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v85 : BitVec 1 := Scalar.cmpi .sge v2 c28_i32
  let v86 : BitVec 32 := Scalar.extui v85
  let c0_i32_27 : BitVec 32 := 0#32
  let v87 : BitVec 1 := Scalar.cmpi .ne v86 c0_i32_27
  v87

def k0_dev28 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_570 : BitVec 32 := 28#32
  let v592 : BitVec 32 := Scalar.subi v2 c28_i32_570
  let c1_i32_572 : BitVec 32 := 1#32
  let v593 : BitVec 32 := Scalar.muli v592 c1_i32_572
  let v594 : BitVec 32 := Scalar.addi c0_i32_573 v593
  v594.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v88 : BitVec 1 := Scalar.cmpi .sge v2 c29_i32
  let v89 : BitVec 32 := Scalar.extui v88
  let c0_i32_28 : BitVec 32 := 0#32
  let v90 : BitVec 1 := Scalar.cmpi .ne v89 c0_i32_28
  v90

def k0_dev29 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_570 : BitVec 32 := 29#32
  let v592 : BitVec 32 := Scalar.subi v2 c29_i32_570
  let c1_i32_572 : BitVec 32 := 1#32
  let v593 : BitVec 32 := Scalar.muli v592 c1_i32_572
  let v594 : BitVec 32 := Scalar.addi c0_i32_573 v593
  v594.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v91 : BitVec 1 := Scalar.cmpi .sge v2 c30_i32
  let v92 : BitVec 32 := Scalar.extui v91
  let c0_i32_29 : BitVec 32 := 0#32
  let v93 : BitVec 1 := Scalar.cmpi .ne v92 c0_i32_29
  v93

def k0_dev30 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_570 : BitVec 32 := 30#32
  let v592 : BitVec 32 := Scalar.subi v2 c30_i32_570
  let c1_i32_572 : BitVec 32 := 1#32
  let v593 : BitVec 32 := Scalar.muli v592 c1_i32_572
  let v594 : BitVec 32 := Scalar.addi c0_i32_573 v593
  v594.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v94 : BitVec 1 := Scalar.cmpi .sge v2 c31_i32
  let v95 : BitVec 32 := Scalar.extui v94
  let c0_i32_30 : BitVec 32 := 0#32
  let v96 : BitVec 1 := Scalar.cmpi .ne v95 c0_i32_30
  v96

def k0_dev31 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_570 : BitVec 32 := 31#32
  let v592 : BitVec 32 := Scalar.subi v2 c31_i32_570
  let c1_i32_572 : BitVec 32 := 1#32
  let v593 : BitVec 32 := Scalar.muli v592 c1_i32_572
  let v594 : BitVec 32 := Scalar.addi c0_i32_573 v593
  v594.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v227 : BitVec 32 := Scalar.addi v2 c1_i32_127
  let c31_i32_128 : BitVec 32 := 31#32
  let v228 : BitVec 1 := Scalar.cmpi .sle v227 c31_i32_128
  let v231 : BitVec 32 := Scalar.extui v228
  let c0_i32_133 : BitVec 32 := 0#32
  let v232 : BitVec 1 := Scalar.cmpi .ne v231 c0_i32_133
  v232

def k0_dev32 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_129 : BitVec 32 := 1#32
  let v229 : BitVec 32 := Scalar.addi v2 c1_i32_129
  let c31_i32_130 : BitVec 32 := 31#32
  let v230 : BitVec 32 := Scalar.minsi v229 c31_i32_130
  let c1_i32_570 : BitVec 32 := 1#32
  let v592 : BitVec 32 := Scalar.muli v230 c1_i32_570
  let v593 : BitVec 32 := Scalar.addi c0_i32_571 v592
  v593.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_134 : BitVec 32 := 2#32
  let v233 : BitVec 32 := Scalar.addi v2 c2_i32_134
  let c31_i32_135 : BitVec 32 := 31#32
  let v234 : BitVec 1 := Scalar.cmpi .sle v233 c31_i32_135
  let v237 : BitVec 32 := Scalar.extui v234
  let c0_i32_140 : BitVec 32 := 0#32
  let v238 : BitVec 1 := Scalar.cmpi .ne v237 c0_i32_140
  v238

def k0_dev33 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_136 : BitVec 32 := 2#32
  let v235 : BitVec 32 := Scalar.addi v2 c2_i32_136
  let c31_i32_137 : BitVec 32 := 31#32
  let v236 : BitVec 32 := Scalar.minsi v235 c31_i32_137
  let c1_i32_570 : BitVec 32 := 1#32
  let v592 : BitVec 32 := Scalar.muli v236 c1_i32_570
  let v593 : BitVec 32 := Scalar.addi c0_i32_571 v592
  v593.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_141 : BitVec 32 := 3#32
  let v239 : BitVec 32 := Scalar.addi v2 c3_i32_141
  let c31_i32_142 : BitVec 32 := 31#32
  let v240 : BitVec 1 := Scalar.cmpi .sle v239 c31_i32_142
  let v243 : BitVec 32 := Scalar.extui v240
  let c0_i32_147 : BitVec 32 := 0#32
  let v244 : BitVec 1 := Scalar.cmpi .ne v243 c0_i32_147
  v244

def k0_dev34 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_143 : BitVec 32 := 3#32
  let v241 : BitVec 32 := Scalar.addi v2 c3_i32_143
  let c31_i32_144 : BitVec 32 := 31#32
  let v242 : BitVec 32 := Scalar.minsi v241 c31_i32_144
  let c1_i32_570 : BitVec 32 := 1#32
  let v592 : BitVec 32 := Scalar.muli v242 c1_i32_570
  let v593 : BitVec 32 := Scalar.addi c0_i32_571 v592
  v593.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_148 : BitVec 32 := 4#32
  let v245 : BitVec 32 := Scalar.addi v2 c4_i32_148
  let c31_i32_149 : BitVec 32 := 31#32
  let v246 : BitVec 1 := Scalar.cmpi .sle v245 c31_i32_149
  let v249 : BitVec 32 := Scalar.extui v246
  let c0_i32_154 : BitVec 32 := 0#32
  let v250 : BitVec 1 := Scalar.cmpi .ne v249 c0_i32_154
  v250

def k0_dev35 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_150 : BitVec 32 := 4#32
  let v247 : BitVec 32 := Scalar.addi v2 c4_i32_150
  let c31_i32_151 : BitVec 32 := 31#32
  let v248 : BitVec 32 := Scalar.minsi v247 c31_i32_151
  let c1_i32_570 : BitVec 32 := 1#32
  let v592 : BitVec 32 := Scalar.muli v248 c1_i32_570
  let v593 : BitVec 32 := Scalar.addi c0_i32_571 v592
  v593.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_155 : BitVec 32 := 5#32
  let v251 : BitVec 32 := Scalar.addi v2 c5_i32_155
  let c31_i32_156 : BitVec 32 := 31#32
  let v252 : BitVec 1 := Scalar.cmpi .sle v251 c31_i32_156
  let v255 : BitVec 32 := Scalar.extui v252
  let c0_i32_161 : BitVec 32 := 0#32
  let v256 : BitVec 1 := Scalar.cmpi .ne v255 c0_i32_161
  v256

def k0_dev36 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_157 : BitVec 32 := 5#32
  let v253 : BitVec 32 := Scalar.addi v2 c5_i32_157
  let c31_i32_158 : BitVec 32 := 31#32
  let v254 : BitVec 32 := Scalar.minsi v253 c31_i32_158
  let c1_i32_570 : BitVec 32 := 1#32
  let v592 : BitVec 32 := Scalar.muli v254 c1_i32_570
  let v593 : BitVec 32 := Scalar.addi c0_i32_571 v592
  v593.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_162 : BitVec 32 := 6#32
  let v257 : BitVec 32 := Scalar.addi v2 c6_i32_162
  let c31_i32_163 : BitVec 32 := 31#32
  let v258 : BitVec 1 := Scalar.cmpi .sle v257 c31_i32_163
  let v261 : BitVec 32 := Scalar.extui v258
  let c0_i32_168 : BitVec 32 := 0#32
  let v262 : BitVec 1 := Scalar.cmpi .ne v261 c0_i32_168
  v262

def k0_dev37 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_164 : BitVec 32 := 6#32
  let v259 : BitVec 32 := Scalar.addi v2 c6_i32_164
  let c31_i32_165 : BitVec 32 := 31#32
  let v260 : BitVec 32 := Scalar.minsi v259 c31_i32_165
  let c1_i32_570 : BitVec 32 := 1#32
  let v592 : BitVec 32 := Scalar.muli v260 c1_i32_570
  let v593 : BitVec 32 := Scalar.addi c0_i32_571 v592
  v593.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_169 : BitVec 32 := 7#32
  let v263 : BitVec 32 := Scalar.addi v2 c7_i32_169
  let c31_i32_170 : BitVec 32 := 31#32
  let v264 : BitVec 1 := Scalar.cmpi .sle v263 c31_i32_170
  let v267 : BitVec 32 := Scalar.extui v264
  let c0_i32_175 : BitVec 32 := 0#32
  let v268 : BitVec 1 := Scalar.cmpi .ne v267 c0_i32_175
  v268

def k0_dev38 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_171 : BitVec 32 := 7#32
  let v265 : BitVec 32 := Scalar.addi v2 c7_i32_171
  let c31_i32_172 : BitVec 32 := 31#32
  let v266 : BitVec 32 := Scalar.minsi v265 c31_i32_172
  let c1_i32_570 : BitVec 32 := 1#32
  let v592 : BitVec 32 := Scalar.muli v266 c1_i32_570
  let v593 : BitVec 32 := Scalar.addi c0_i32_571 v592
  v593.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_176 : BitVec 32 := 8#32
  let v269 : BitVec 32 := Scalar.addi v2 c8_i32_176
  let c31_i32_177 : BitVec 32 := 31#32
  let v270 : BitVec 1 := Scalar.cmpi .sle v269 c31_i32_177
  let v273 : BitVec 32 := Scalar.extui v270
  let c0_i32_182 : BitVec 32 := 0#32
  let v274 : BitVec 1 := Scalar.cmpi .ne v273 c0_i32_182
  v274

def k0_dev39 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_178 : BitVec 32 := 8#32
  let v271 : BitVec 32 := Scalar.addi v2 c8_i32_178
  let c31_i32_179 : BitVec 32 := 31#32
  let v272 : BitVec 32 := Scalar.minsi v271 c31_i32_179
  let c1_i32_570 : BitVec 32 := 1#32
  let v592 : BitVec 32 := Scalar.muli v272 c1_i32_570
  let v593 : BitVec 32 := Scalar.addi c0_i32_571 v592
  v593.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_183 : BitVec 32 := 9#32
  let v275 : BitVec 32 := Scalar.addi v2 c9_i32_183
  let c31_i32_184 : BitVec 32 := 31#32
  let v276 : BitVec 1 := Scalar.cmpi .sle v275 c31_i32_184
  let v279 : BitVec 32 := Scalar.extui v276
  let c0_i32_189 : BitVec 32 := 0#32
  let v280 : BitVec 1 := Scalar.cmpi .ne v279 c0_i32_189
  v280

def k0_dev40 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_185 : BitVec 32 := 9#32
  let v277 : BitVec 32 := Scalar.addi v2 c9_i32_185
  let c31_i32_186 : BitVec 32 := 31#32
  let v278 : BitVec 32 := Scalar.minsi v277 c31_i32_186
  let c1_i32_570 : BitVec 32 := 1#32
  let v592 : BitVec 32 := Scalar.muli v278 c1_i32_570
  let v593 : BitVec 32 := Scalar.addi c0_i32_571 v592
  v593.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_190 : BitVec 32 := 10#32
  let v281 : BitVec 32 := Scalar.addi v2 c10_i32_190
  let c31_i32_191 : BitVec 32 := 31#32
  let v282 : BitVec 1 := Scalar.cmpi .sle v281 c31_i32_191
  let v285 : BitVec 32 := Scalar.extui v282
  let c0_i32_196 : BitVec 32 := 0#32
  let v286 : BitVec 1 := Scalar.cmpi .ne v285 c0_i32_196
  v286

def k0_dev41 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_192 : BitVec 32 := 10#32
  let v283 : BitVec 32 := Scalar.addi v2 c10_i32_192
  let c31_i32_193 : BitVec 32 := 31#32
  let v284 : BitVec 32 := Scalar.minsi v283 c31_i32_193
  let c1_i32_570 : BitVec 32 := 1#32
  let v592 : BitVec 32 := Scalar.muli v284 c1_i32_570
  let v593 : BitVec 32 := Scalar.addi c0_i32_571 v592
  v593.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_197 : BitVec 32 := 11#32
  let v287 : BitVec 32 := Scalar.addi v2 c11_i32_197
  let c31_i32_198 : BitVec 32 := 31#32
  let v288 : BitVec 1 := Scalar.cmpi .sle v287 c31_i32_198
  let v291 : BitVec 32 := Scalar.extui v288
  let c0_i32_203 : BitVec 32 := 0#32
  let v292 : BitVec 1 := Scalar.cmpi .ne v291 c0_i32_203
  v292

def k0_dev42 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_199 : BitVec 32 := 11#32
  let v289 : BitVec 32 := Scalar.addi v2 c11_i32_199
  let c31_i32_200 : BitVec 32 := 31#32
  let v290 : BitVec 32 := Scalar.minsi v289 c31_i32_200
  let c1_i32_570 : BitVec 32 := 1#32
  let v592 : BitVec 32 := Scalar.muli v290 c1_i32_570
  let v593 : BitVec 32 := Scalar.addi c0_i32_571 v592
  v593.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_204 : BitVec 32 := 12#32
  let v293 : BitVec 32 := Scalar.addi v2 c12_i32_204
  let c31_i32_205 : BitVec 32 := 31#32
  let v294 : BitVec 1 := Scalar.cmpi .sle v293 c31_i32_205
  let v297 : BitVec 32 := Scalar.extui v294
  let c0_i32_210 : BitVec 32 := 0#32
  let v298 : BitVec 1 := Scalar.cmpi .ne v297 c0_i32_210
  v298

def k0_dev43 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_206 : BitVec 32 := 12#32
  let v295 : BitVec 32 := Scalar.addi v2 c12_i32_206
  let c31_i32_207 : BitVec 32 := 31#32
  let v296 : BitVec 32 := Scalar.minsi v295 c31_i32_207
  let c1_i32_570 : BitVec 32 := 1#32
  let v592 : BitVec 32 := Scalar.muli v296 c1_i32_570
  let v593 : BitVec 32 := Scalar.addi c0_i32_571 v592
  v593.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_211 : BitVec 32 := 13#32
  let v299 : BitVec 32 := Scalar.addi v2 c13_i32_211
  let c31_i32_212 : BitVec 32 := 31#32
  let v300 : BitVec 1 := Scalar.cmpi .sle v299 c31_i32_212
  let v303 : BitVec 32 := Scalar.extui v300
  let c0_i32_217 : BitVec 32 := 0#32
  let v304 : BitVec 1 := Scalar.cmpi .ne v303 c0_i32_217
  v304

def k0_dev44 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_213 : BitVec 32 := 13#32
  let v301 : BitVec 32 := Scalar.addi v2 c13_i32_213
  let c31_i32_214 : BitVec 32 := 31#32
  let v302 : BitVec 32 := Scalar.minsi v301 c31_i32_214
  let c1_i32_570 : BitVec 32 := 1#32
  let v592 : BitVec 32 := Scalar.muli v302 c1_i32_570
  let v593 : BitVec 32 := Scalar.addi c0_i32_571 v592
  v593.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_218 : BitVec 32 := 14#32
  let v305 : BitVec 32 := Scalar.addi v2 c14_i32_218
  let c31_i32_219 : BitVec 32 := 31#32
  let v306 : BitVec 1 := Scalar.cmpi .sle v305 c31_i32_219
  let v309 : BitVec 32 := Scalar.extui v306
  let c0_i32_224 : BitVec 32 := 0#32
  let v310 : BitVec 1 := Scalar.cmpi .ne v309 c0_i32_224
  v310

def k0_dev45 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_220 : BitVec 32 := 14#32
  let v307 : BitVec 32 := Scalar.addi v2 c14_i32_220
  let c31_i32_221 : BitVec 32 := 31#32
  let v308 : BitVec 32 := Scalar.minsi v307 c31_i32_221
  let c1_i32_570 : BitVec 32 := 1#32
  let v592 : BitVec 32 := Scalar.muli v308 c1_i32_570
  let v593 : BitVec 32 := Scalar.addi c0_i32_571 v592
  v593.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_225 : BitVec 32 := 15#32
  let v311 : BitVec 32 := Scalar.addi v2 c15_i32_225
  let c31_i32_226 : BitVec 32 := 31#32
  let v312 : BitVec 1 := Scalar.cmpi .sle v311 c31_i32_226
  let v315 : BitVec 32 := Scalar.extui v312
  let c0_i32_231 : BitVec 32 := 0#32
  let v316 : BitVec 1 := Scalar.cmpi .ne v315 c0_i32_231
  v316

def k0_dev46 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_227 : BitVec 32 := 15#32
  let v313 : BitVec 32 := Scalar.addi v2 c15_i32_227
  let c31_i32_228 : BitVec 32 := 31#32
  let v314 : BitVec 32 := Scalar.minsi v313 c31_i32_228
  let c1_i32_570 : BitVec 32 := 1#32
  let v592 : BitVec 32 := Scalar.muli v314 c1_i32_570
  let v593 : BitVec 32 := Scalar.addi c0_i32_571 v592
  v593.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_232 : BitVec 32 := 16#32
  let v317 : BitVec 32 := Scalar.addi v2 c16_i32_232
  let c31_i32_233 : BitVec 32 := 31#32
  let v318 : BitVec 1 := Scalar.cmpi .sle v317 c31_i32_233
  let v321 : BitVec 32 := Scalar.extui v318
  let c0_i32_238 : BitVec 32 := 0#32
  let v322 : BitVec 1 := Scalar.cmpi .ne v321 c0_i32_238
  v322

def k0_dev47 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_234 : BitVec 32 := 16#32
  let v319 : BitVec 32 := Scalar.addi v2 c16_i32_234
  let c31_i32_235 : BitVec 32 := 31#32
  let v320 : BitVec 32 := Scalar.minsi v319 c31_i32_235
  let c1_i32_570 : BitVec 32 := 1#32
  let v592 : BitVec 32 := Scalar.muli v320 c1_i32_570
  let v593 : BitVec 32 := Scalar.addi c0_i32_571 v592
  v593.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_239 : BitVec 32 := 17#32
  let v323 : BitVec 32 := Scalar.addi v2 c17_i32_239
  let c31_i32_240 : BitVec 32 := 31#32
  let v324 : BitVec 1 := Scalar.cmpi .sle v323 c31_i32_240
  let v327 : BitVec 32 := Scalar.extui v324
  let c0_i32_245 : BitVec 32 := 0#32
  let v328 : BitVec 1 := Scalar.cmpi .ne v327 c0_i32_245
  v328

def k0_dev48 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_241 : BitVec 32 := 17#32
  let v325 : BitVec 32 := Scalar.addi v2 c17_i32_241
  let c31_i32_242 : BitVec 32 := 31#32
  let v326 : BitVec 32 := Scalar.minsi v325 c31_i32_242
  let c1_i32_570 : BitVec 32 := 1#32
  let v592 : BitVec 32 := Scalar.muli v326 c1_i32_570
  let v593 : BitVec 32 := Scalar.addi c0_i32_571 v592
  v593.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_246 : BitVec 32 := 18#32
  let v329 : BitVec 32 := Scalar.addi v2 c18_i32_246
  let c31_i32_247 : BitVec 32 := 31#32
  let v330 : BitVec 1 := Scalar.cmpi .sle v329 c31_i32_247
  let v333 : BitVec 32 := Scalar.extui v330
  let c0_i32_252 : BitVec 32 := 0#32
  let v334 : BitVec 1 := Scalar.cmpi .ne v333 c0_i32_252
  v334

def k0_dev49 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_248 : BitVec 32 := 18#32
  let v331 : BitVec 32 := Scalar.addi v2 c18_i32_248
  let c31_i32_249 : BitVec 32 := 31#32
  let v332 : BitVec 32 := Scalar.minsi v331 c31_i32_249
  let c1_i32_570 : BitVec 32 := 1#32
  let v592 : BitVec 32 := Scalar.muli v332 c1_i32_570
  let v593 : BitVec 32 := Scalar.addi c0_i32_571 v592
  v593.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_253 : BitVec 32 := 19#32
  let v335 : BitVec 32 := Scalar.addi v2 c19_i32_253
  let c31_i32_254 : BitVec 32 := 31#32
  let v336 : BitVec 1 := Scalar.cmpi .sle v335 c31_i32_254
  let v339 : BitVec 32 := Scalar.extui v336
  let c0_i32_259 : BitVec 32 := 0#32
  let v340 : BitVec 1 := Scalar.cmpi .ne v339 c0_i32_259
  v340

def k0_dev50 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_255 : BitVec 32 := 19#32
  let v337 : BitVec 32 := Scalar.addi v2 c19_i32_255
  let c31_i32_256 : BitVec 32 := 31#32
  let v338 : BitVec 32 := Scalar.minsi v337 c31_i32_256
  let c1_i32_570 : BitVec 32 := 1#32
  let v592 : BitVec 32 := Scalar.muli v338 c1_i32_570
  let v593 : BitVec 32 := Scalar.addi c0_i32_571 v592
  v593.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_260 : BitVec 32 := 20#32
  let v341 : BitVec 32 := Scalar.addi v2 c20_i32_260
  let c31_i32_261 : BitVec 32 := 31#32
  let v342 : BitVec 1 := Scalar.cmpi .sle v341 c31_i32_261
  let v345 : BitVec 32 := Scalar.extui v342
  let c0_i32_266 : BitVec 32 := 0#32
  let v346 : BitVec 1 := Scalar.cmpi .ne v345 c0_i32_266
  v346

def k0_dev51 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_262 : BitVec 32 := 20#32
  let v343 : BitVec 32 := Scalar.addi v2 c20_i32_262
  let c31_i32_263 : BitVec 32 := 31#32
  let v344 : BitVec 32 := Scalar.minsi v343 c31_i32_263
  let c1_i32_570 : BitVec 32 := 1#32
  let v592 : BitVec 32 := Scalar.muli v344 c1_i32_570
  let v593 : BitVec 32 := Scalar.addi c0_i32_571 v592
  v593.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_267 : BitVec 32 := 21#32
  let v347 : BitVec 32 := Scalar.addi v2 c21_i32_267
  let c31_i32_268 : BitVec 32 := 31#32
  let v348 : BitVec 1 := Scalar.cmpi .sle v347 c31_i32_268
  let v351 : BitVec 32 := Scalar.extui v348
  let c0_i32_273 : BitVec 32 := 0#32
  let v352 : BitVec 1 := Scalar.cmpi .ne v351 c0_i32_273
  v352

def k0_dev52 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_269 : BitVec 32 := 21#32
  let v349 : BitVec 32 := Scalar.addi v2 c21_i32_269
  let c31_i32_270 : BitVec 32 := 31#32
  let v350 : BitVec 32 := Scalar.minsi v349 c31_i32_270
  let c1_i32_570 : BitVec 32 := 1#32
  let v592 : BitVec 32 := Scalar.muli v350 c1_i32_570
  let v593 : BitVec 32 := Scalar.addi c0_i32_571 v592
  v593.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_274 : BitVec 32 := 22#32
  let v353 : BitVec 32 := Scalar.addi v2 c22_i32_274
  let c31_i32_275 : BitVec 32 := 31#32
  let v354 : BitVec 1 := Scalar.cmpi .sle v353 c31_i32_275
  let v357 : BitVec 32 := Scalar.extui v354
  let c0_i32_280 : BitVec 32 := 0#32
  let v358 : BitVec 1 := Scalar.cmpi .ne v357 c0_i32_280
  v358

def k0_dev53 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_276 : BitVec 32 := 22#32
  let v355 : BitVec 32 := Scalar.addi v2 c22_i32_276
  let c31_i32_277 : BitVec 32 := 31#32
  let v356 : BitVec 32 := Scalar.minsi v355 c31_i32_277
  let c1_i32_570 : BitVec 32 := 1#32
  let v592 : BitVec 32 := Scalar.muli v356 c1_i32_570
  let v593 : BitVec 32 := Scalar.addi c0_i32_571 v592
  v593.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_281 : BitVec 32 := 23#32
  let v359 : BitVec 32 := Scalar.addi v2 c23_i32_281
  let c31_i32_282 : BitVec 32 := 31#32
  let v360 : BitVec 1 := Scalar.cmpi .sle v359 c31_i32_282
  let v363 : BitVec 32 := Scalar.extui v360
  let c0_i32_287 : BitVec 32 := 0#32
  let v364 : BitVec 1 := Scalar.cmpi .ne v363 c0_i32_287
  v364

def k0_dev54 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_283 : BitVec 32 := 23#32
  let v361 : BitVec 32 := Scalar.addi v2 c23_i32_283
  let c31_i32_284 : BitVec 32 := 31#32
  let v362 : BitVec 32 := Scalar.minsi v361 c31_i32_284
  let c1_i32_570 : BitVec 32 := 1#32
  let v592 : BitVec 32 := Scalar.muli v362 c1_i32_570
  let v593 : BitVec 32 := Scalar.addi c0_i32_571 v592
  v593.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_288 : BitVec 32 := 24#32
  let v365 : BitVec 32 := Scalar.addi v2 c24_i32_288
  let c31_i32_289 : BitVec 32 := 31#32
  let v366 : BitVec 1 := Scalar.cmpi .sle v365 c31_i32_289
  let v369 : BitVec 32 := Scalar.extui v366
  let c0_i32_294 : BitVec 32 := 0#32
  let v370 : BitVec 1 := Scalar.cmpi .ne v369 c0_i32_294
  v370

def k0_dev55 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_290 : BitVec 32 := 24#32
  let v367 : BitVec 32 := Scalar.addi v2 c24_i32_290
  let c31_i32_291 : BitVec 32 := 31#32
  let v368 : BitVec 32 := Scalar.minsi v367 c31_i32_291
  let c1_i32_570 : BitVec 32 := 1#32
  let v592 : BitVec 32 := Scalar.muli v368 c1_i32_570
  let v593 : BitVec 32 := Scalar.addi c0_i32_571 v592
  v593.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_295 : BitVec 32 := 25#32
  let v371 : BitVec 32 := Scalar.addi v2 c25_i32_295
  let c31_i32_296 : BitVec 32 := 31#32
  let v372 : BitVec 1 := Scalar.cmpi .sle v371 c31_i32_296
  let v375 : BitVec 32 := Scalar.extui v372
  let c0_i32_301 : BitVec 32 := 0#32
  let v376 : BitVec 1 := Scalar.cmpi .ne v375 c0_i32_301
  v376

def k0_dev56 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_297 : BitVec 32 := 25#32
  let v373 : BitVec 32 := Scalar.addi v2 c25_i32_297
  let c31_i32_298 : BitVec 32 := 31#32
  let v374 : BitVec 32 := Scalar.minsi v373 c31_i32_298
  let c1_i32_570 : BitVec 32 := 1#32
  let v592 : BitVec 32 := Scalar.muli v374 c1_i32_570
  let v593 : BitVec 32 := Scalar.addi c0_i32_571 v592
  v593.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_302 : BitVec 32 := 26#32
  let v377 : BitVec 32 := Scalar.addi v2 c26_i32_302
  let c31_i32_303 : BitVec 32 := 31#32
  let v378 : BitVec 1 := Scalar.cmpi .sle v377 c31_i32_303
  let v381 : BitVec 32 := Scalar.extui v378
  let c0_i32_308 : BitVec 32 := 0#32
  let v382 : BitVec 1 := Scalar.cmpi .ne v381 c0_i32_308
  v382

def k0_dev57 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_304 : BitVec 32 := 26#32
  let v379 : BitVec 32 := Scalar.addi v2 c26_i32_304
  let c31_i32_305 : BitVec 32 := 31#32
  let v380 : BitVec 32 := Scalar.minsi v379 c31_i32_305
  let c1_i32_570 : BitVec 32 := 1#32
  let v592 : BitVec 32 := Scalar.muli v380 c1_i32_570
  let v593 : BitVec 32 := Scalar.addi c0_i32_571 v592
  v593.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_309 : BitVec 32 := 27#32
  let v383 : BitVec 32 := Scalar.addi v2 c27_i32_309
  let c31_i32_310 : BitVec 32 := 31#32
  let v384 : BitVec 1 := Scalar.cmpi .sle v383 c31_i32_310
  let v387 : BitVec 32 := Scalar.extui v384
  let c0_i32_315 : BitVec 32 := 0#32
  let v388 : BitVec 1 := Scalar.cmpi .ne v387 c0_i32_315
  v388

def k0_dev58 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_311 : BitVec 32 := 27#32
  let v385 : BitVec 32 := Scalar.addi v2 c27_i32_311
  let c31_i32_312 : BitVec 32 := 31#32
  let v386 : BitVec 32 := Scalar.minsi v385 c31_i32_312
  let c1_i32_570 : BitVec 32 := 1#32
  let v592 : BitVec 32 := Scalar.muli v386 c1_i32_570
  let v593 : BitVec 32 := Scalar.addi c0_i32_571 v592
  v593.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_316 : BitVec 32 := 28#32
  let v389 : BitVec 32 := Scalar.addi v2 c28_i32_316
  let c31_i32_317 : BitVec 32 := 31#32
  let v390 : BitVec 1 := Scalar.cmpi .sle v389 c31_i32_317
  let v393 : BitVec 32 := Scalar.extui v390
  let c0_i32_322 : BitVec 32 := 0#32
  let v394 : BitVec 1 := Scalar.cmpi .ne v393 c0_i32_322
  v394

def k0_dev59 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_318 : BitVec 32 := 28#32
  let v391 : BitVec 32 := Scalar.addi v2 c28_i32_318
  let c31_i32_319 : BitVec 32 := 31#32
  let v392 : BitVec 32 := Scalar.minsi v391 c31_i32_319
  let c1_i32_570 : BitVec 32 := 1#32
  let v592 : BitVec 32 := Scalar.muli v392 c1_i32_570
  let v593 : BitVec 32 := Scalar.addi c0_i32_571 v592
  v593.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_323 : BitVec 32 := 29#32
  let v395 : BitVec 32 := Scalar.addi v2 c29_i32_323
  let c31_i32_324 : BitVec 32 := 31#32
  let v396 : BitVec 1 := Scalar.cmpi .sle v395 c31_i32_324
  let v399 : BitVec 32 := Scalar.extui v396
  let c0_i32_329 : BitVec 32 := 0#32
  let v400 : BitVec 1 := Scalar.cmpi .ne v399 c0_i32_329
  v400

def k0_dev60 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_325 : BitVec 32 := 29#32
  let v397 : BitVec 32 := Scalar.addi v2 c29_i32_325
  let c31_i32_326 : BitVec 32 := 31#32
  let v398 : BitVec 32 := Scalar.minsi v397 c31_i32_326
  let c1_i32_570 : BitVec 32 := 1#32
  let v592 : BitVec 32 := Scalar.muli v398 c1_i32_570
  let v593 : BitVec 32 := Scalar.addi c0_i32_571 v592
  v593.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_330 : BitVec 32 := 30#32
  let v401 : BitVec 32 := Scalar.addi v2 c30_i32_330
  let c31_i32_331 : BitVec 32 := 31#32
  let v402 : BitVec 1 := Scalar.cmpi .sle v401 c31_i32_331
  let v405 : BitVec 32 := Scalar.extui v402
  let c0_i32_336 : BitVec 32 := 0#32
  let v406 : BitVec 1 := Scalar.cmpi .ne v405 c0_i32_336
  v406

def k0_dev61 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_332 : BitVec 32 := 30#32
  let v403 : BitVec 32 := Scalar.addi v2 c30_i32_332
  let c31_i32_333 : BitVec 32 := 31#32
  let v404 : BitVec 32 := Scalar.minsi v403 c31_i32_333
  let c1_i32_570 : BitVec 32 := 1#32
  let v592 : BitVec 32 := Scalar.muli v404 c1_i32_570
  let v593 : BitVec 32 := Scalar.addi c0_i32_571 v592
  v593.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_337 : BitVec 32 := 31#32
  let v407 : BitVec 32 := Scalar.addi v2 c31_i32_337
  let c31_i32_338 : BitVec 32 := 31#32
  let v408 : BitVec 1 := Scalar.cmpi .sle v407 c31_i32_338
  let v411 : BitVec 32 := Scalar.extui v408
  let c0_i32_343 : BitVec 32 := 0#32
  let v412 : BitVec 1 := Scalar.cmpi .ne v411 c0_i32_343
  v412

def k0_dev62 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_339 : BitVec 32 := 31#32
  let v409 : BitVec 32 := Scalar.addi v2 c31_i32_339
  let c31_i32_340 : BitVec 32 := 31#32
  let v410 : BitVec 32 := Scalar.minsi v409 c31_i32_340
  let c1_i32_570 : BitVec 32 := 1#32
  let v592 : BitVec 32 := Scalar.muli v410 c1_i32_570
  let v593 : BitVec 32 := Scalar.addi c0_i32_571 v592
  v593.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S_, .f32⟩
  | .hbm, ⟨3, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Setup.lean ====
/-
# The prefix sum on 32 devices: cells, contents and schedule

Device `c` holds 512 rows. It sums its own block down the columns (`tot c`, one row), sends that row to every later
device `c + d` into row `d` of that device's landing buffer, and adds the rows `1 … c` of its own landing buffer to the
running sum of its block.

Before it sends, a device waits until every later device has signalled its barrier semaphore. Device `c`'s signal
number `d` goes to device `c - d` and says that row `d` of `c`'s landing buffer may be written. So the signal carries
that row, and the transfer number `d` of device `c - d` gives it back through `c`'s receive semaphore `d`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the mesh's, whose duties are numbered by distance -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## Earlier and later devices -/

/-- There is a device at distance `d ≥ 1` before `c`. -/
abbrev dnOk (c : Dev nD) (d : Fin 32) : Prop := 1 ≤ d.val ∧ d.val ≤ c.val
/-- There is a device at distance `d ≥ 1` after `c`. -/
abbrev upOk (c : Dev nD) (d : Fin 32) : Prop := 1 ≤ d.val ∧ c.val + d.val ≤ 31

set_option backward.proofsInPublic true in
/-- The device at distance `d` before `c`. -/
def dn (c : Dev nD) (d : Fin 32) : Dev nD := ⟨c.val - d.val, Nat.lt_of_le_of_lt (Nat.sub_le _ _) c.isLt⟩
set_option backward.proofsInPublic true in
/-- The device at distance `d` after `c`. -/
def up (c : Dev nD) (d : Fin 32) : Dev nD := ⟨min (c.val + d.val) 31, Nat.lt_of_le_of_lt (Nat.min_le_right _ _) (by decide)⟩

theorem up_val {c : Dev nD} {d : Fin 32} (h : upOk c d) : (up c d).val = c.val + d.val := Nat.min_eq_left h.2
theorem dn_val (c : Dev nD) (d : Fin 32) : (dn c d).val = c.val - d.val := rfl
theorem dn_up {c : Dev nD} {d : Fin 32} (h : upOk c d) : dn (up c d) d = c := Fin.ext (by rw [dn_val, up_val h]; omega)
theorem up_dn {c : Dev nD} {d : Fin 32} (h : dnOk c d) : up (dn c d) d = c :=
  Fin.ext (by show min (c.val - d.val + d.val) 31 = c.val; have := c.isLt; have := h.2; simp only [nD] at *; omega)
theorem dnOk_up {c : Dev nD} {d : Fin 32} (h : upOk c d) : dnOk (up c d) d := ⟨h.1, by rw [up_val h]; omega⟩
theorem upOk_dn {c : Dev nD} {d : Fin 32} (h : dnOk c d) : upOk (dn c d) d :=
  ⟨h.1, by rw [dn_val]; have := c.isLt; have := h.2; simp only [nD] at *; omega⟩

/-- The distances at which `c` has a later device. -/
def ups (c : Dev nD) : Finset (Fin 32) := Finset.univ.filter (upOk c)
theorem mem_ups {c : Dev nD} {d : Fin 32} : d ∈ ups c ↔ upOk c d := by unfold ups; rw [Finset.mem_filter]; exact ⟨fun h => h.2, fun h => ⟨Finset.mem_univ _, h⟩⟩
set_option maxRecDepth 4000 in
theorem card_ups (c : Dev nD) : (ups c).card = 31 - c.val := by revert c; decide +kernel

/-! ## The memrefs and cells -/

abbrev xM : Memref sig .tc .vmem S512x512 .f32 := Memref.whole cc0_stg0_0
abbrev oM : Memref sig .tc .vmem S512x512 .f32 := Memref.whole cc0_stg1_0
abbrev cM : Memref sig .tc .vmem S32x512 .f32 := Memref.whole cc0_scratch0

theorem inb_row (d : Fin 32) : ∀ a, (![d.val, 0] : Fin 2 → Nat) a + S1x512.size a ≤ S32x512.size a :=
  Fin.forall_fin_two.mpr ⟨d.isLt, Nat.le_refl _⟩

abbrev rowRect (d : Fin 32) : Rect S32x512 := Rect.unit (s := S32x512) ![d.val, 0] S1x512.size (inb_row d)
/-- Row `d` of the landing buffer. -/
abbrev rowM (d : Fin 32) : Memref sig .tc .vmem S1x512 .f32 := cM.slice (rowRect d) (fun _ => rfl)

/-- The runtime's barrier semaphore, the send semaphores and the receive semaphores. -/
abbrev barS : Sem sig := (SemArray.scalar (sig.barrier 0 rfl) : Sems sig S_).sem
abbrev sendS (d : Fin 32) : DmaSem sig := ⟨2 + d.val, by have := d.isLt; show 2 + d.val < 66; omega⟩
abbrev recvS (d : Fin 32) : DmaSem sig := ⟨34 + d.val, by have := d.isLt; show 34 + d.val < 66; omega⟩

abbrev barCell (c : Dev nD) : GSem nD τ sig := ((c : Thread nD τ), .reg barS)
abbrev sendCell (c : Dev nD) (d : Fin 32) : GSem nD τ sig := ((c : Thread nD τ), .dma (sendS d))
abbrev recvCell (c : Dev nD) (d : Fin 32) : GSem nD τ sig := ((c : Thread nD τ), .dma (recvS d))

/-- The kernel's own semaphores: send, receive; -/
abbrev osem : Fin 32 ⊕ Fin 32 → SemLoc sig := Sum.elim (fun d => .dma (sendS d)) (fun d => .dma (recvS d))
/-- and with the barrier semaphore, all the cells of the protocol on one device. -/
abbrev Cx : Type := Unit ⊕ (Fin 32 ⊕ Fin 32)
abbrev csem : Cx → SemLoc sig := Sum.elim (fun _ => .reg barS) osem
abbrev kcell (ck : Dev nD × Cx) : GSem nD τ sig := ((ck.1 : Thread nD τ), csem ck.2)
abbrev bx : Cx := .inl ()
abbrev sx (d : Fin 32) : Cx := .inr (.inl d)
abbrev rx (d : Fin 32) : Cx := .inr (.inr d)

theorem inb_lane (d : Fin 32) : ∀ a, (![d.val] : Fin 1 → Nat) a + S1.size a ≤ S32.size a := fun a => by
  have := d.isLt
  match a with
  | ⟨0, _⟩ => show d.val + 1 ≤ 32; omega

/-- Entry `d` of the send semaphores and of the receive semaphores, as the kernel names it. -/
abbrev sendA (d : Fin 32) : DmaSems sig S_ :=
  ((cc0_scratch1 : DmaSems sig S32).slice (Rect.unit (s := S32) ![d.val] S1.size (inb_lane d))).squeeze S_ squeezes_S1_S_
abbrev recvA (d : Fin 32) : DmaSems sig S_ :=
  ((cc0_scratch2 : DmaSems sig S32).slice (Rect.unit (s := S32) ![d.val] S1.size (inb_lane d))).squeeze S_ squeezes_S1_S_

set_option maxRecDepth 4000 in
theorem sendA_sem (d : Fin 32) : (sendA d).sem = sendS d := by revert d; decide +kernel
set_option maxRecDepth 4000 in
theorem recvA_sem (d : Fin 32) : (recvA d).sem = recvS d := by revert d; decide +kernel

/-- The credit of one row. -/
abbrev N : ℕ := (rowM 0).view.dmaCredit
theorem N_pos : 0 < N := View.dmaCredit_pos _ (by decide)

/-! ## Contents -/

/-- What device `c`'s staging buffer of `x` holds: its block. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device `c`'s block, one row. -/
def tot (c : Dev nD) : FVec F S1x512 .f32 := k0_pay1 (xstg m ρ c)

set_option backward.proofsInPublic true in
/-- The place in a one-row array above column `i 1`. -/
def rowIdx (i : S32x512.Idx) : S1x512.Idx := fun a => match a with
  | ⟨0, _⟩ => ⟨0, Nat.one_pos⟩
  | ⟨1, _⟩ => ⟨(i 1).val, (i 1).isLt⟩

/-- A landing buffer whose every row is `t`. -/
def fill (t : FVec F S1x512 .f32) : (cc0_scratch0 : Ref sig .tc).ty.Contents (Elt F) := fun i => t (rowIdx i)

/-- Row `d` of device `c`'s landing buffer at share `q`. -/
def rowPts (c : Dev nD) (d : Fin 32) (q : PosShare TreeShare) (f : Buf (Elt F) ((rowM d).view.loc (c : Thread nD τ))) : sProp 𝕄 :=
  (rowM d).view.loc (c : Thread nD τ) ↦[(rowM d).view.set]{q} f
/-- The same in full at contents nothing is said of. -/
def rowAny (c : Dev nD) (d : Fin 32) : sProp 𝕄 := iprop(∃ f, rowPts (F := F) c d fullShare f)
/-- The part of row 0, holding `tot c`, that transfer `d` reads. -/
def rowTok (c : Dev nD) (d : Fin 32) : sProp 𝕄 := rowPts c 0 (Transfers.shareTok fullShare 32 d) (fill (tot m ρ c))
/-- Row `d` as the transfer from `dn c d` leaves it. -/
def rowGot (c : Dev nD) (d : Fin 32) : sProp 𝕄 := rowPts c d fullShare (fill (tot m ρ (dn c d)))

omit [FloatOps F] in
instance rowPts_storable (c d q f) : BI.Storable (upEmb : UEmb _ 𝕄) (rowPts (F := F) c d q f) := by unfold rowPts; infer_instance
omit [FloatOps F] in
instance rowAny_storable (c d) : BI.Storable (upEmb : UEmb _ 𝕄) (rowAny (F := F) c d) := by unfold rowAny; infer_instance
instance rowTok_storable (c d) : BI.Storable (upEmb : UEmb _ 𝕄) (rowTok (F := F) m ρ c d) := by unfold rowTok; infer_instance
instance rowGot_storable (c d) : BI.Storable (upEmb : UEmb _ 𝕄) (rowGot (F := F) m ρ c d) := by unfold rowGot; infer_instance

/-! ## The schedule: one round -/

set_option backward.proofsInPublic true in
/-- The distance a semaphore number stands for. -/
def dist (q : DmaSem sig) : Fin 32 := ⟨(q.val - 2) % 32, Nat.mod_lt _ (by decide)⟩

theorem dist_send (d : Fin 32) : dist (sendS d) = d := Fin.ext (by show (2 + d.val - 2) % 32 = d.val; have := d.isLt; omega)
theorem dist_recv (d : Fin 32) : dist (recvS d) = d := Fin.ext (by show (34 + d.val - 2) % 32 = d.val; have := d.isLt; omega)

/-- The duties of a cell in the one round: of the barrier one for each later device; of the send cell `d` one if there
    is a later device at distance `d`; of the receive cell `d` one if there is an earlier device at distance `d`. -/
def dutiesOf (c : Dev nD) : SemLoc sig → Finset (Fin 32)
  | .reg _ => ups c
  | .dma q => if q.val < 2 then ∅ else if q.val < 34 then (if upOk c (dist q) then {0} else ∅) else (if dnOk c (dist q) then {0} else ∅)

/-- What a duty hands over: on the barrier the row that may be written, on a send cell the part of row 0 that was read,
    on a receive cell the row that has arrived. -/
def payOf (c : Dev nD) (s : SemLoc sig) (d : Fin 32) : sProp 𝕄 :=
  match s with
  | .reg _ => rowAny (up c d) d
  | .dma q => if q.val < 34 then rowTok m ρ c (dist q) else rowGot m ρ c (dist q)

def amountOf : SemLoc sig → ℕ
  | .reg _ => 1
  | .dma _ => N

def Rd : Rounds.Schedule (GSem nD τ sig) (Fin 32) 𝕄 where
  duties g r := if r = 0 ∧ g.1.2 = .tc then dutiesOf g.1.1 g.2 else ∅
  unitless _ := False
  amount g _ _ := amountOf g.2
  payload g _ d := payOf m ρ g.1.1 g.2 d
  amount_pos g _ _ _ := by
    rcases g.2 with _ | _
    · exact Nat.one_pos
    · exact N_pos

instance payOf_storable (c : Dev nD) (s : SemLoc sig) (d : Fin 32) : BI.Storable (upEmb : UEmb _ 𝕄) (payOf (F := F) m ρ c s d) := by
  unfold payOf
  rcases s with _ | q
  · infer_instance
  · dsimp only; split <;> infer_instance
instance Rd_payload_storable (g : GSem nD τ sig) (r : ℕ) (d : Fin 32) :
    BI.Storable (upEmb : UEmb _ 𝕄) ((Rd (F := F) m ρ).payload g r d) := payOf_storable m ρ g.1.1 g.2 d

section Sched
variable (c : Dev nD) (d : Fin 32)

theorem duties_at (s : SemLoc sig) : (Rd (F := F) m ρ).duties ((c : Thread nD τ), s) 0 = dutiesOf c s := rfl
theorem duties_later (g : GSem nD τ sig) : ∀ r, 1 ≤ r → (Rd (F := F) m ρ).duties g r = ∅ := fun r hr => if_neg fun h => by omega
theorem duties_bar : (Rd (F := F) m ρ).duties (barCell c) 0 = ups c := duties_at m ρ c _
theorem dutiesOf_send : dutiesOf c (.dma (sendS d)) = if upOk c d then {0} else ∅ := by
  unfold dutiesOf; have := d.isLt; dsimp only
  rw [if_neg (show ¬ 2 + d.val < 2 by omega), if_pos (show 2 + d.val < 34 by omega), dist_send]
theorem dutiesOf_recv : dutiesOf c (.dma (recvS d)) = if dnOk c d then {0} else ∅ := by
  unfold dutiesOf; have := d.isLt; dsimp only
  rw [if_neg (show ¬ 34 + d.val < 2 by omega), if_neg (show ¬ 34 + d.val < 34 by omega), dist_recv]
theorem duties_send (h : upOk c d) : (Rd (F := F) m ρ).duties (sendCell c d) 0 = {0} := by rw [duties_at, dutiesOf_send, if_pos h]
theorem duties_send_no (h : ¬ upOk c d) : (Rd (F := F) m ρ).duties (sendCell c d) 0 = ∅ := by rw [duties_at, dutiesOf_send, if_neg h]
theorem duties_recv (h : dnOk c d) : (Rd (F := F) m ρ).duties (recvCell c d) 0 = {0} := by rw [duties_at, dutiesOf_recv, if_pos h]
theorem duties_recv_no (h : ¬ dnOk c d) : (Rd (F := F) m ρ).duties (recvCell c d) 0 = ∅ := by rw [duties_at, dutiesOf_recv, if_neg h]

theorem amount_reg (r e) (s) : (Rd (F := F) m ρ).amount ((c : Thread nD τ), .reg s) r e = 1 := rfl
theorem amount_dma (r e) (q) : (Rd (F := F) m ρ).amount ((c : Thread nD τ), .dma q) r e = N := rfl

theorem expect_bar : (Rd (F := F) m ρ).expect (barCell c) 0 = (ups c).card := by
  unfold Schedule.expect Schedule.amountOf
  rw [duties_bar, Finset.sum_congr rfl fun e _ => amount_reg m ρ c 0 e _, Finset.sum_const, smul_eq_mul, Nat.mul_one]
theorem expect_send (h : upOk c d) : (Rd (F := F) m ρ).expect (sendCell c d) 0 = N := by
  unfold Schedule.expect Schedule.amountOf; rw [duties_send m ρ c d h, Finset.sum_singleton, amount_dma]
theorem expect_recv (h : dnOk c d) : (Rd (F := F) m ρ).expect (recvCell c d) 0 = N := by
  unfold Schedule.expect Schedule.amountOf; rw [duties_recv m ρ c d h, Finset.sum_singleton, amount_dma]

theorem payload_bar : (Rd (F := F) m ρ).payload (barCell c) 0 d = rowAny (up c d) d := rfl
theorem payload_send (e) : (Rd (F := F) m ρ).payload (sendCell c d) 0 e = rowTok m ρ c d := by
  show payOf m ρ c (.dma (sendS d)) e = _
  unfold payOf; have := d.isLt; dsimp only; rw [if_pos (show 2 + d.val < 34 by omega), dist_send]
theorem payload_recv (e) : (Rd (F := F) m ρ).payload (recvCell c d) 0 e = rowGot m ρ c d := by
  show payOf m ρ c (.dma (recvS d)) e = _
  unfold payOf; have := d.isLt; dsimp only; rw [if_neg (show ¬ 34 + d.val < 34 by omega), dist_recv]

theorem rest_send (h : upOk c d) :
    bigSep ((Rd (F := F) m ρ).duties (sendCell c d) 0 \ ∅) (fun e => (Rd (F := F) m ρ).payload (sendCell c d) 0 e) = rowTok m ρ c d := by
  rw [Finset.sdiff_empty, duties_send m ρ c d h, bigSep_singleton, payload_send]
theorem rest_recv (h : dnOk c d) :
    bigSep ((Rd (F := F) m ρ).duties (recvCell c d) 0 \ ∅) (fun e => (Rd (F := F) m ρ).payload (recvCell c d) 0 e) = rowGot m ρ c d := by
  rw [Finset.sdiff_empty, duties_recv m ρ c d h, bigSep_singleton, payload_recv]

/-- A send or receive cell without duties is closed from the start; with one, after its round. -/
theorem send_none (h : ¬ upOk c d) : ∀ r, 0 ≤ r → (Rd (F := F) m ρ).duties (sendCell c d) r = ∅ := fun r _ => by
  rcases Nat.eq_zero_or_pos r with rfl | hr
  · exact duties_send_no m ρ c d h
  · exact duties_later m ρ _ r hr
theorem recv_none (h : ¬ dnOk c d) : ∀ r, 0 ≤ r → (Rd (F := F) m ρ).duties (recvCell c d) r = ∅ := fun r _ => by
  rcases Nat.eq_zero_or_pos r with rfl | hr
  · exact duties_recv_no m ρ c d h
  · exact duties_later m ρ _ r hr

end Sched

end Cert.Scan

end
-- ==== Proof.Phases.lean ====
/-
# The kernel's loops over the distances: their states, what is owed, and the printed conditions

Each of the kernel's loops runs over the distances `1 … 31`. Its state after `j - 1` rounds is one separating
conjunction over the distances: what belongs to a distance still to come, and what a distance done has left.
-/
module

public import proofs.«01_k».proof.Proof.Setup

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A resource held under a condition -/

/-- `A` if `p`, nothing otherwise. -/
def opt (p : Prop) [Decidable p] (A : sProp 𝕄) : sProp 𝕄 := if p then A else iprop(emp)
omit [FloatOps F] in
theorem opt_pos {p : Prop} [Decidable p] (h : p) (A : sProp 𝕄) : opt p A = A := if_pos h
omit [FloatOps F] in
theorem opt_neg {p : Prop} [Decidable p] (h : ¬ p) (A : sProp 𝕄) : opt p A = iprop(emp) := if_neg h

omit [FloatOps F] in
theorem bigSep_take {I : Type} [DecidableEq I] {s : Finset I} {i : I} (h : i ∈ s) (A : I → sProp 𝕄) :
    bigSep s A = iprop(A i ∗ bigSep (s.erase i) A) := BI.bigSep_erase h

omit [FloatOps F] in
theorem bigSep_part {I : Type} [DecidableEq I] {s t : Finset I} (h : t ⊆ s) (A : I → sProp 𝕄) :
    bigSep s A = iprop(bigSep t A ∗ bigSep (s \ t) A) := BI.bigSep_sdiff_split h
omit [FloatOps F] in
theorem ent_trans {A B C : sProp 𝕄} (h₁ : A ⊢ B) (h₂ : B ⊢ C) : A ⊢ C := h₁.trans h₂

/-! ## The state of a loop -/

/-- The distances `1 … 31`. -/
abbrev dists : Finset (Fin 32) := Finset.univ.erase 0

/-- Before the round of distance `j`: `A d` of each distance from `j` on, `B d` of each before it. -/
def ph (A B : Fin 32 → sProp 𝕄) (j : ℕ) : sProp 𝕄 := bigSep dists fun d => if j ≤ d.val then A d else B d

omit [FloatOps F] in
theorem ph_step (A B : Fin 32 → sProp 𝕄) (d : Fin 32) (hd : 1 ≤ d.val) :
    ph A B d.val ⊢ iprop(A d ∗ (B d -∗ ph A B (d.val + 1))) := by
  have hm : d ∈ dists := Finset.mem_erase.mpr ⟨fun h => by rw [h] at hd; exact absurd hd (by decide), Finset.mem_univ _⟩
  unfold ph
  rw [bigSep_take hm, bigSep_take hm (fun e : Fin 32 => if d.val + 1 ≤ e.val then A e else B e),
    if_pos (Nat.le_refl _), if_neg (Nat.not_succ_le_self _)]
  rw [BI.bigSep_congr (Φ := fun e : Fin 32 => if d.val ≤ e.val then A e else B e)
    (Ψ := fun e : Fin 32 => if d.val + 1 ≤ e.val then A e else B e) fun e he => by
      have hne : e.val ≠ d.val := fun h => (Finset.mem_erase.mp he).1 (Fin.ext h)
      by_cases h : d.val ≤ e.val
      · rw [if_pos h, if_pos (by omega)]
      · rw [if_neg h, if_neg (by omega)]]
  iintro ⟨HA, HR⟩
  isplitl [HA]; · iexact HA
  iintro HB
  isplitl [HB]; · iexact HB
  iexact HR

omit [FloatOps F] in
theorem ph_start (A B : Fin 32 → sProp 𝕄) : ph A B 1 = bigSep dists A :=
  BI.bigSep_congr fun e he => if_pos (Nat.one_le_iff_ne_zero.mpr fun h => (Finset.mem_erase.mp he).1 (Fin.ext h))
omit [FloatOps F] in
theorem ph_end (A B : Fin 32 → sProp 𝕄) : ph A B 32 = bigSep dists B :=
  BI.bigSep_congr fun e he => if_neg (Nat.not_le.mpr e.isLt)

/-! ## Sums over the distances still to come -/

abbrev Tal : Type := CellTallies nD τ sig Unit

def sumFrom (p : Fin 32 → Prop) [DecidablePred p] (f : Fin 32 → Tal) (j : ℕ) : Tal :=
  ∑ d : Fin 32, if j ≤ d.val ∧ p d then f d else 0

section SumFrom
variable (p : Fin 32 → Prop) [DecidablePred p] (f : Fin 32 → Tal)

theorem sumFrom_take (d : Fin 32) (h : p d) : sumFrom p f d.val = sumFrom p f (d.val + 1) + f d := by
  unfold sumFrom
  rw [← Finset.sum_erase_add _ _ (Finset.mem_univ d),
    ← Finset.sum_erase_add _ (fun e : Fin 32 => if d.val + 1 ≤ e.val ∧ p e then f e else 0) (Finset.mem_univ d),
    if_pos ⟨Nat.le_refl _, h⟩, if_neg (fun h' => Nat.not_succ_le_self _ h'.1), add_zero]
  refine congrArg (· + f d) (Finset.sum_congr rfl fun e he => ?_)
  have hne : e.val ≠ d.val := fun h => (Finset.mem_erase.mp he).1 (Fin.ext h)
  by_cases h' : d.val ≤ e.val ∧ p e
  · rw [if_pos h', if_pos ⟨by omega, h'.2⟩]
  · rw [if_neg h', if_neg fun h'' => h' ⟨by omega, h''.2⟩]

theorem sumFrom_skip (d : Fin 32) (h : ¬ p d) : sumFrom p f d.val = sumFrom p f (d.val + 1) := by
  unfold sumFrom
  refine Finset.sum_congr rfl fun e _ => ?_
  by_cases h' : d.val ≤ e.val ∧ p e
  · have hne : e.val ≠ d.val := fun h'' => h (Fin.ext h'' ▸ h'.2)
    rw [if_pos h', if_pos ⟨by omega, h'.2⟩]
  · rw [if_neg h', if_neg fun h'' => h' ⟨by omega, h''.2⟩]

theorem sumFrom_end : sumFrom p f 32 = 0 :=
  Finset.sum_eq_zero fun e _ => if_neg fun h => Nat.not_le.mpr e.isLt h.1

theorem sumFrom_pos {j : ℕ} {g : GSem nD τ sig} {u : Unit} (h : 0 < sumFrom p f j g u) : ∃ d, p d ∧ 0 < f d g u := by
  unfold sumFrom at h
  rw [Finset.sum_apply, Finsupp.finset_sum_apply] at h
  obtain ⟨d, _, hd⟩ := Finset.exists_ne_zero_of_sum_ne_zero h.ne'
  by_cases h' : j ≤ d.val ∧ p d
  · rw [if_pos h'] at hd; exact ⟨d, h'.2, Nat.pos_of_ne_zero hd⟩
  · rw [if_neg h'] at hd; exact absurd rfl hd
end SumFrom

/-- The barrier signals device `c` still owes before its signal `j`, and the receive credits before its transfer `j`. -/
def owA (c : Dev nD) (j : ℕ) : Tal := sumFrom (dnOk c) (fun d => tallyAt (barCell (dn c d)) () 1) j
def owR (c : Dev nD) (j : ℕ) : Tal := sumFrom (upOk c) (fun d => tallyAt (recvCell (up c d) d) () N) j
/-- What device `c` owes at launch. -/
def O₀ (c : Dev nD) : Tal := owA c 1 + owR c 1

theorem tallyAt_pos {g g' : GSem nD τ sig} {u u' : Unit} {k : ℕ} (h : 0 < (tallyAt g u k : Tal) g' u') : g' = g := by
  rw [tallyAt_apply] at h
  by_contra hn
  rw [if_neg fun h' => hn h'.1] at h
  exact Nat.lt_irrefl 0 h

theorem owR_pos {c : Dev nD} {j : ℕ} {g : GSem nD τ sig} {u : Unit} (h : 0 < owR c j g u) : ∃ d, g = recvCell (up c d) d := by
  obtain ⟨d, _, hd⟩ := sumFrom_pos _ _ h; exact ⟨d, tallyAt_pos hd⟩
theorem O₀_pos {c : Dev nD} {g : GSem nD τ sig} {u : Unit} (h : 0 < O₀ c g u) :
    (∃ c', g = barCell c') ∨ ∃ c' d, g = recvCell c' d := by
  unfold O₀ at h
  rw [Pi.add_apply, Finsupp.add_apply] at h
  rcases Nat.eq_zero_or_pos (owA c 1 g u) with h0 | h0
  · rw [h0, Nat.zero_add] at h
    obtain ⟨d, hd⟩ := owR_pos h; exact .inr ⟨_, d, hd⟩
  · obtain ⟨d, _, hd⟩ := sumFrom_pos _ _ h0; exact .inl ⟨_, tallyAt_pos hd⟩

/-! ## Levels: barrier cells at 1, receive cells at 2, everything else at 0 -/

def L (g : GSem nD τ sig) : Finset Unit := if g.1.2 = .tc then {()} else ∅
def lvOf : SemLoc sig → ℕ
  | .reg _ => 1
  | .dma q => if q.val < 34 then 0 else 2
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (d : Fin 32) : lv (recvCell c d) () = 2 := if_neg (by show ¬ 34 + d.val < 34; omega)

omit [FloatOps F] in
/-- At a barrier wait a device owes receive credits only, which lie above. -/
theorem mayWait_bar (c : Dev nD) (j : ℕ) : (levAts L lv : sProp 𝕄) ⊢ MayWait (c : Thread nD τ) (.reg barS) () (owR c j) :=
  MayOwe.of_cut (L := L) (lev := lv) 1 (fun p hp => by rw [Finset.mem_singleton.mp hp, L_tc]; exact Finset.mem_singleton_self _)
    (fun g u hg => by obtain ⟨d, rfl⟩ := owR_pos hg; rw [L_tc]; exact Finset.mem_singleton_self _)
    (fun p hp => by rw [Finset.mem_singleton.mp hp]; exact Nat.le_refl 1)
    (fun g u hg => by obtain ⟨d, rfl⟩ := owR_pos hg; rw [lv_recv]; decide)

omit [FloatOps F] in
/-- A staging or send semaphore lies below everything a device may owe. -/
theorem mayWait_stage (c : Dev nD) (q : DmaSem sig) (hq : q.val < 34) (O : Tal) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨c', rfl⟩ | ⟨c', d, rfl⟩ <;> exact Finset.mem_singleton_self _)
      (fun p hp => by rw [Finset.mem_singleton.mp hp]; show (if q.val < 34 then 0 else 2) ≤ 0; rw [if_pos hq])
      (fun g u hg => by
        rcases O₀_pos hg with ⟨c', rfl⟩ | ⟨c', d, rfl⟩
        · exact Nat.one_pos
        · rw [lv_recv]; decide)
  · rw [MayWait_zero]; iintro -; iempintro

/-! ## The words the kernel computes: its position, and the printed conditions -/

/-- The position on the axis, as the kernel computes it from the device's number. -/
abbrev posW (c : Dev nD) : BitVec 32 := Scalar.remsi (Scalar.divsi (Dev.word c) 1#32) 32#32

set_option maxRecDepth 8000 in
theorem cond_up (c : Dev nD) (d : Fin 32) (h1 : 1 ≤ d.val) :
    Scalar.cmpi .ne (Scalar.extui (Scalar.cmpi .sle (Scalar.addi (posW c) (BitVec.ofNat 32 d.val)) 31#32)) 0#32 = 1#1 ↔ upOk c d := by
  have h : ∀ c : Dev nD, ∀ d : Fin 32, 1 ≤ d.val →
    (Scalar.cmpi .ne (Scalar.extui (Scalar.cmpi .sle (Scalar.addi (posW c) (BitVec.ofNat 32 d.val)) 31#32)) 0#32 = 1#1 ↔ upOk c d) := by
      decide +kernel
  exact h c d h1
set_option maxRecDepth 8000 in
theorem cond_dn (c : Dev nD) (d : Fin 32) (h1 : 1 ≤ d.val) :
    Scalar.cmpi .ne (Scalar.extui (Scalar.cmpi .sge (posW c) (BitVec.ofNat 32 d.val))) 0#32 = 1#1 ↔ dnOk c d := by
  have h : ∀ c : Dev nD, ∀ d : Fin 32, 1 ≤ d.val →
    (Scalar.cmpi .ne (Scalar.extui (Scalar.cmpi .sge (posW c) (BitVec.ofNat 32 d.val))) 0#32 = 1#1 ↔ dnOk c d) := by
      decide +kernel
  exact h c d h1
set_option maxRecDepth 8000 in
theorem dev_dn (c : Dev nD) (d : Fin 32) (hd : dnOk c d) :
    (Scalar.addi 0#32 (Scalar.muli (Scalar.subi (posW c) (BitVec.ofNat 32 d.val)) 1#32)).toNat = (dn c d).val := by
  have h : ∀ c : Dev nD, ∀ d : Fin 32, dnOk c d →
    (Scalar.addi 0#32 (Scalar.muli (Scalar.subi (posW c) (BitVec.ofNat 32 d.val)) 1#32)).toNat = (dn c d).val := by decide +kernel
  exact h c d hd
set_option maxRecDepth 8000 in
theorem dev_up (c : Dev nD) (d : Fin 32) :
    (Scalar.addi 0#32 (Scalar.muli (Scalar.minsi (Scalar.addi (posW c) (BitVec.ofNat 32 d.val)) 31#32) 1#32)).toNat = (up c d).val := by
  have h : ∀ c : Dev nD, ∀ d : Fin 32,
    (Scalar.addi 0#32 (Scalar.muli (Scalar.minsi (Scalar.addi (posW c) (BitVec.ofNat 32 d.val)) 31#32) 1#32)).toNat = (up c d).val := by
      decide +kernel
  exact h c d

end Cert.Scan

end
-- ==== Proof.Pays.lean ====
/-
# What the kernel's three computations are, element by element, over the extended reals

The column sums of a block; the sums of a block down to each row, a product with the triangle of ones; and that plus the
sum of the rows `1 … c` of the landing buffer, a sum over all rows each times one or zero.
-/

module

public import proofs.«01_k».proof.Proof.Phases
public import Idealize.ShloMosaic.Lib.Pointwise

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Pays

/-- A bit read as a number: one or nothing. -/
theorem bit_num (b : BitVec 1) : (FloatOps.sitofp (F := Idealize.ShloMosaic.Ideal) FTy.f32 (BitVec.setWidth 32 b)) = if b = 1#1 then (1 : EReal) else 0 := by
  have h : b = 0#1 ∨ b = 1#1 := by revert b; decide
  rcases h with rfl | rfl
  · rw [if_neg (by decide)]
    show (((BitVec.setWidth 32 0#1).toInt : ℝ) : EReal) = 0
    rw [show (BitVec.setWidth 32 0#1).toInt = 0 from by decide]
    simp
  · rw [if_pos rfl]
    show (((BitVec.setWidth 32 1#1).toInt : ℝ) : EReal) = 1
    rw [show (BitVec.setWidth 32 1#1).toInt = 1 from by decide]
    simp

theorem word_toInt {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

theorem ge_word {a b : ℕ} (ha : a < 2 ^ 31) (hb : b < 2 ^ 31) : IntOp.cmpi .sge (BitVec.ofNat 32 a) (BitVec.ofNat 32 b) = 1#1 ↔ b ≤ a := by
  show BitVec.ofBool ((BitVec.ofNat 32 b).sle (BitVec.ofNat 32 a)) = 1#1 ↔ _
  have e : (BitVec.ofNat 32 b).sle (BitVec.ofNat 32 a) = decide (b ≤ a) := by
    show decide ((BitVec.ofNat 32 b).toInt ≤ (BitVec.ofNat 32 a).toInt) = _
    rw [word_toInt ha, word_toInt hb]
    exact decide_eq_decide.2 Int.ofNat_le
  rw [e]
  by_cases h : b ≤ a <;> simp [h]

theorem row_bit (c : Dev nD) (d : Fin 32) :
    IntOp.andi (IntOp.cmpi .sge (BitVec.ofNat 32 d.val) 1#32) (IntOp.cmpi .sle (BitVec.ofNat 32 d.val) (posW c)) = 1#1 ↔ dnOk c d := by
  have h : ∀ c : Dev nD, ∀ d : Fin 32,
      (IntOp.andi (IntOp.cmpi .sge (BitVec.ofNat 32 d.val) 1#32) (IntOp.cmpi .sle (BitVec.ofNat 32 d.val) (posW c)) = 1#1 ↔ dnOk c d) := by
    decide +kernel
  exact h c d

theorem pay1_apply (x : Vec Ideal S512x512 .f32) (j : S1x512.Idx) : k0_pay1 x j = ∑ k : Fin 512, x (ix2 k (j 1)) := by
  pointwise [k0_pay1]

theorem pay2_apply (x : Vec Ideal S512x512 .f32) (r l : Fin 512) :
    k0_pay2 x (ix2 r l) = ∑ k : Fin 512, if k ≤ r then x (ix2 k l) else 0 := by
  pointwise [k0_pay2]
  refine Finset.sum_congr rfl fun k _ => ?_
  rw [bit_num]
  by_cases h : k ≤ r
  · rw [if_pos h, if_pos ((ge_word (by have := r.isLt; omega) (by have := k.isLt; omega)).2 h), one_mul]
  · rw [if_neg h, if_neg fun h' => h ((ge_word (by have := r.isLt; omega) (by have := k.isLt; omega)).1 h'), zero_mul]

theorem pay3_words (w : BitVec 32) (x : FVec Ideal S512x512 .f32) (g : Vec Ideal S32x512 .f32) (r l : Fin 512) :
    k0_pay3 w x g (ix2 r l) = x (ix2 r l) + ∑ d : Fin 32, g (ix2 d l) * FloatOps.sitofp (F := Idealize.ShloMosaic.Ideal) FTy.f32
      (BitVec.setWidth 32 (IntOp.andi (IntOp.cmpi .sge (BitVec.ofNat 32 d.val) 1#32) (IntOp.cmpi .sle (BitVec.ofNat 32 d.val) w))) := by
  pointwise [k0_pay3]

theorem pay3_apply (c : Dev nD) (x : FVec Ideal S512x512 .f32) (g : Vec Ideal S32x512 .f32) (r l : Fin 512) :
    k0_pay3 (posW c) x g (ix2 r l) = x (ix2 r l) + ∑ d : Fin 32, if dnOk c d then g (ix2 d l) else 0 := by
  rw [pay3_words]
  refine congrArg _ (Finset.sum_congr rfl fun d _ => ?_)
  rw [bit_num]
  by_cases h : dnOk c d
  · rw [if_pos h, if_pos ((row_bit c d).2 h), mul_one]
  · rw [if_neg h, if_neg fun h' => h ((row_bit c d).1 h'), mul_zero]

end Pays

end Cert.Scan

end
-- ==== Proof.Window.lean ====
/-
# A running sum written as a padded window, as a sum over the rows above

A window as tall as the array, padded above by one row less than its height and moved down one row at a time, holds at
place `j` just the rows `0 … j`: adding up its contents is the sum of those rows.
-/

module

public import proofs.«01_k».proof.Proof.Pays
public import Idealize.ShloMosaic.Lib.Routing.OpsOne

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Window

/-- Adding up a list of places from a start. -/
theorem foldl_add_sum {n : ℕ} (g : Fin n → EReal) (v : EReal) : (List.finRange n).foldl (fun r i => r + g i) v = v + ∑ i, g i := by
  have h : ∀ l : List (Fin n), ∀ v : EReal, l.foldl (fun r i => r + g i) v = v + (l.map g).sum := by
    intro l
    induction l with
    | nil => intro v; simp
    | cons a l ih => intro v; rw [List.foldl_cons, ih, List.map_cons, List.sum_cons, add_assoc]
  rw [h, Fin.sum_univ_def]

/-- The window's places that lie inside the array, counted from the array's first row. -/
theorem sum_shift {q : ℕ} (f : Fin (q + 1) → EReal) (j : Fin (q + 1)) :
    (∑ n : Fin (q + 1), if h : q ≤ j.val + n.val ∧ j.val + n.val - q < q + 1 then f ⟨j.val + n.val - q, h.2⟩ else 0)
      = ∑ i : Fin (q + 1), if i ≤ j then f i else 0 := by
  refine (Finset.sum_filter_of_ne (p := fun n : Fin (q + 1) => q ≤ j.val + n.val) ?_).symm.trans ?_
  · intro n _ hn
    by_contra h
    exact hn (dif_neg fun h' => h h'.1)
  rw [← Finset.sum_filter]
  have hj := j.isLt
  refine Finset.sum_bij' (fun n _ => ⟨j.val + n.val - q, by have := n.isLt; omega⟩)
    (fun i hi => ⟨i.val + q - j.val, by have := (Finset.mem_filter.1 hi).2; have h' : i.val ≤ j.val := this; omega⟩) ?_ ?_ ?_ ?_ ?_
  · intro n hn
    refine Finset.mem_filter.2 ⟨Finset.mem_univ _, ?_⟩
    show j.val + n.val - q ≤ j.val
    have := n.isLt; omega
  · intro i hi
    refine Finset.mem_filter.2 ⟨Finset.mem_univ _, ?_⟩
    show q ≤ j.val + (i.val + q - j.val)
    omega
  · intro n hn
    have h : q ≤ j.val + n.val := (Finset.mem_filter.1 hn).2
    refine Fin.ext ?_
    show j.val + n.val - q + q - j.val = n.val
    omega
  · intro i hi
    have h : i.val ≤ j.val := (Finset.mem_filter.1 hi).2
    refine Fin.ext ?_
    show j.val + (i.val + q - j.val) - q = i.val
    omega
  · intro n hn
    have h : q ≤ j.val + n.val := (Finset.mem_filter.1 hn).2
    exact dif_pos ⟨h, by have := n.isLt; omega⟩

/-- The window's sum at row `j`: the rows up to `j`, over a start of nothing. -/
theorem window_sum {q C : ℕ} (x : (Routing.shape2 (q + 1) C).Idx → EReal) (init : Routing.shape0.Idx → EReal)
    (h : (Routing.shape2 (q + 1) C).ReduceWindows (![q + 1, 1] : Fin 2 → ℕ) ![1, 1] ![q, 0] ![0, 0] (Routing.shape2 (q + 1) C)) (hu : 0 < Routing.shape0.numel)
    (hv : init (Shape.Idx.first hu) = 0) (j : Fin (q + 1)) (l : Fin C) :
    Host.reduceWindow (· + ·) ![q + 1, 1] ![1, 1] ![q, 0] ![0, 0] x init h hu (ix2 j l) = ∑ i : Fin (q + 1), if i ≤ j then x (ix2 i l) else 0 := by
  have hw0 : ∀ n, ((Routing.shape2 (q + 1) 1).rowMajor.symm n 0).val = n.val := fun n => by rw [Routing.symm_col]; rfl
  have hw1 : ∀ n, ((Routing.shape2 (q + 1) 1).rowMajor.symm n 1).val = 0 := fun n => by rw [Routing.symm_col]; rfl
  have hc := l.isLt
  unfold Host.reduceWindow
  refine (foldl_add_sum _ _).trans ?_
  refine (congrArg (· + _) hv).trans ((zero_add _).trans ?_)
  rw [← sum_shift (fun i => x (ix2 i l)) j]
  refine Fintype.sum_equiv (finCongr (Routing.numel_col (q + 1))) _ _ fun n => ?_
  dsimp only
  have e0 : ((finCongr (Routing.numel_col (q + 1))) n).val = n.val := rfl
  split
  · next hin =>
    have h0 := hin 0
    change q ≤ j.val * 1 + ((Routing.shape2 (q + 1) 1).rowMajor.symm n 0).val
      ∧ j.val * 1 + ((Routing.shape2 (q + 1) 1).rowMajor.symm n 0).val - q < q + 1 at h0
    rw [hw0, Nat.mul_one] at h0
    refine Eq.trans ?_ (dif_pos h0).symm
    refine congrArg x (funext fun a => Fin.ext ?_)
    match a with
    | ⟨0, _⟩ =>
      show j.val * 1 + ((Routing.shape2 (q + 1) 1).rowMajor.symm n 0).val - q = j.val + n.val - q
      rw [hw0, Nat.mul_one]
    | ⟨1, _⟩ =>
      show l.val * 1 + ((Routing.shape2 (q + 1) 1).rowMajor.symm n 1).val - 0 = l.val
      rw [hw1]
      omega
  · next hin =>
    refine hv.trans (Eq.symm (dif_neg fun hle => hin fun a => ?_))
    match a with
    | ⟨0, _⟩ =>
      show q ≤ j.val * 1 + ((Routing.shape2 (q + 1) 1).rowMajor.symm n 0).val
        ∧ j.val * 1 + ((Routing.shape2 (q + 1) 1).rowMajor.symm n 0).val - q < q + 1
      rw [hw0, Nat.mul_one]
      exact hle
    | ⟨1, _⟩ =>
      show 0 ≤ l.val * 1 + ((Routing.shape2 (q + 1) 1).rowMajor.symm n 1).val ∧ l.val * 1 + ((Routing.shape2 (q + 1) 1).rowMajor.symm n 1).val - 0 < C
      rw [hw1]
      omega

end Window

end Cert.Scan

end
-- ==== Proof.Blocks.lean ====
/-
# The rows above a row, block by block

The array's 16384 rows are 32 blocks of 512. The sum down to row `r` of block `c` is the block's own sum down to `r` and
the whole sums of the blocks before it, counted back from `c`.
-/

module

public import proofs.«01_k».proof.Proof.Window

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Blocks

/-- Row `k` of block `b`, among all the rows. -/
def place (b : Fin 32) (k : Fin 512) : Fin (16383 + 1) := ⟨b.val * 512 + k.val, by have := b.isLt; have := k.isLt; omega⟩

/-- A sum over all rows, block by block. -/
theorem sum_blocks (f : Fin (16383 + 1) → EReal) : ∑ i, f i = ∑ b : Fin 32, ∑ k : Fin 512, f (place b k) := by
  rw [← Fintype.sum_prod_type' (fun b k => f (place b k))]
  refine (Fintype.sum_equiv (finProdFinEquiv.trans (finCongr (by norm_num))) _ _ fun p => ?_).symm
  refine congrArg f (Fin.ext ?_)
  show p.1.val * 512 + p.2.val = p.2.val + 512 * p.1.val
  omega

/-- What block `b` gives to the sum down to row `r` of block `c`: part of itself, or all, or nothing. -/
theorem block_part (f : Fin (16383 + 1) → EReal) (c b : Fin 32) (r : Fin 512) :
    (∑ k : Fin 512, if place b k ≤ place c r then f (place b k) else 0)
      = (if b = c then ∑ k : Fin 512, (if k ≤ r then f (place c k) else 0) else 0) + if b < c then ∑ k : Fin 512, f (place b k) else 0 := by
  have hr := r.isLt
  rcases lt_trichotomy b c with h | h | h
  · rw [if_neg h.ne, if_pos h, zero_add]
    refine Finset.sum_congr rfl fun k _ => if_pos ?_
    show b.val * 512 + k.val ≤ c.val * 512 + r.val
    have := k.isLt; have : b.val < c.val := h; omega
  · subst h
    rw [if_pos rfl, if_neg (lt_irrefl _), add_zero]
    refine Finset.sum_congr rfl fun k _ => if_congr ?_ rfl rfl
    show b.val * 512 + k.val ≤ b.val * 512 + r.val ↔ k.val ≤ r.val
    omega
  · rw [if_neg h.ne', if_neg (not_lt_of_gt h), add_zero]
    refine Finset.sum_eq_zero fun k _ => if_neg ?_
    show ¬ b.val * 512 + k.val ≤ c.val * 512 + r.val
    have : c.val < b.val := h; omega

/-- The blocks before block `c`, counted back from it. -/
theorem sum_before (T : Fin 32 → EReal) (c : Dev nD) :
    (∑ b : Fin 32, if b < c then T b else 0) = ∑ d : Fin 32, if dnOk c d then T (dn c d) else 0 := by
  rw [← Finset.sum_filter, ← Finset.sum_filter]
  have hc : c.val < 32 := c.isLt
  refine (Finset.sum_bij' (fun d _ => dn c d) (fun b _ => (⟨c.val - b.val, by omega⟩ : Fin 32)) ?_ ?_ ?_ ?_ ?_).symm
  · intro d hd
    have h := (Finset.mem_filter.1 hd).2
    refine Finset.mem_filter.2 ⟨Finset.mem_univ _, ?_⟩
    show (dn c d).val < c.val
    rw [dn_val]
    have := h.1; have := h.2; omega
  · intro b hb
    have h : b.val < c.val := (Finset.mem_filter.1 hb).2
    refine Finset.mem_filter.2 ⟨Finset.mem_univ _, ?_, ?_⟩
    · show 1 ≤ c.val - b.val
      omega
    · show c.val - b.val ≤ c.val
      omega
  · intro d hd
    have h := (Finset.mem_filter.1 hd).2
    refine Fin.ext ?_
    show c.val - (dn c d).val = d.val
    rw [dn_val]
    have := h.1; have := h.2; omega
  · intro b hb
    have h : b.val < c.val := (Finset.mem_filter.1 hb).2
    refine Fin.ext ?_
    rw [dn_val]
    show c.val - (c.val - b.val) = b.val
    omega
  · intro d hd
    rfl

/-- The sum down to row `r` of block `c`. -/
theorem sum_upto (f : Fin (16383 + 1) → EReal) (c : Dev nD) (r : Fin 512) :
    (∑ i, if i ≤ place c r then f i else 0)
      = (∑ k : Fin 512, if k ≤ r then f (place c k) else 0) + ∑ d : Fin 32, if dnOk c d then ∑ k : Fin 512, f (place (dn c d) k) else 0 := by
  rw [sum_blocks (fun i => if i ≤ place c r then f i else 0), Finset.sum_congr rfl fun b _ => block_part f c b r, Finset.sum_add_distrib,
    sum_before (fun b => ∑ k : Fin 512, f (place b k)) c, Finset.sum_ite_eq' Finset.univ c, if_pos (Finset.mem_univ _)]

end Blocks

end Cert.Scan

end
-- ==== Proof.Steps.lean ====
/-
# One round of each of the kernel's loops

For each loop: what a distance holds before its round and what the round leaves, and the rule for the round. A round is
a conditional on whether the device at that distance exists. In each rule `rest` is the remaining program; the rule
says that it is enough to run it from the next state.
-/
module

public import proofs.«01_k».proof.Proof.Phases

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`'s TensorCore. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The protocol's records: every cell's invariant, and that every cell is at round 0 -/

def records (K : Dev nD × Cx → ℕ) : sProp 𝕄 :=
  iprop((bigSep Finset.univ fun ck : Dev nD × Cx => cellInv ER (Rd m ρ) (K ck) (kcell ck))
    ∗ bigSep Finset.univ fun ck : Dev nD × Cx => reached ER (kcell ck) 0)
instance records_persistent (K : Dev nD × Cx → ℕ) : BI.Persistent (records m ρ K) := by unfold records; infer_instance

theorem inv_all (K : Dev nD × Cx → ℕ) (ck : Dev nD × Cx) :
    (bigSep Finset.univ fun ck : Dev nD × Cx => (cellInv ER (Rd m ρ) (K ck) (kcell ck) : sProp 𝕄)) ⊢ cellInv ER (Rd m ρ) (K ck) (kcell ck) :=
  bigSep_elim (Finset.mem_univ ck)
omit [FloatOps F] in
theorem reached_all (ck : Dev nD × Cx) :
    (bigSep Finset.univ fun ck : Dev nD × Cx => (reached ER (kcell ck) 0 : sProp 𝕄)) ⊢ reached ER (kcell ck) 0 :=
  bigSep_elim (Finset.mem_univ ck)
theorem inv_at (K : Dev nD × Cx → ℕ) (ck : Dev nD × Cx) : records m ρ K ⊢ cellInv ER (Rd m ρ) (K ck) (kcell ck) := by
  unfold records
  iintro ⟨H, -⟩
  iapply (inv_all m ρ K ck); iexact H
theorem reached_at (K : Dev nD × Cx → ℕ) (ck : Dev nD × Cx) : records m ρ K ⊢ reached ER (kcell ck) 0 := by
  unfold records
  iintro ⟨-, H⟩
  iapply (reached_all ck); iexact H

/-- What every step may use again and again. -/
def know (K : Dev nD × Cx → ℕ) : sProp 𝕄 := iprop(records m ρ K ∗ levAts L lv)
instance know_persistent (K : Dev nD × Cx → ℕ) : BI.Persistent (know m ρ K) := by unfold know; infer_instance

/-! ## The states -/

section States
variable (c : Dev nD)

/-- Signals. Before: row `d`, and the token of the unit owed to the device at distance `d` before. After: the row if
    there is no such device. -/
def sigA (d : Fin 32) : sProp 𝕄 := iprop(rowAny c d ∗ opt (dnOk c d) (dutyTok ER (barCell (dn c d)) 0 d))
def keepA (d : Fin 32) : sProp 𝕄 := opt (¬ dnOk c d) (rowAny c d)
def stA (j : ℕ) : sProp 𝕄 := iprop(ph (sigA c) (keepA c) j ∗ ∃ W, owes (c : Thread nD τ) (owA c j + owR c 1) W)

/-- Barrier waits: the duties `T` known to be paid, with the rows they handed over. -/
def stW (j : ℕ) : sProp 𝕄 :=
  iprop(∃ T : Finset (Fin 32), ⌜T ⊆ ups c ∧ min (j - 1) (31 - c.val) + (ups c \ T).card ≤ (ups c).card⌝
    ∗ atPos ER (barCell c) 0 T (min (j - 1) (31 - c.val)) ∗ bigSep T (fun d => rowAny (up c d) d)
    ∗ cred (tallyAt (barCell c) () (31 - c.val - (j - 1))) ∗ ∃ W, owes (c : Thread nD τ) (owR c 1) W)

/-- Transfers. Before: a part of row 0, the row it is copied to and the two tokens. After: the credit to wait for the
    part of row 0. -/
def sndD (d : Fin 32) : sProp 𝕄 :=
  iprop(rowTok m ρ c d ∗ opt (upOk c d) iprop(rowAny (up c d) d ∗ dutyTok ER (sendCell c d) 0 0 ∗ dutyTok ER (recvCell (up c d) d) 0 0))
def sntD (d : Fin 32) : sProp 𝕄 := if upOk c d then cred (tallyAt (sendCell c d) () N) else rowTok m ρ c d
def stD (j : ℕ) : sProp 𝕄 := iprop(ph (sndD m ρ c) (sntD m ρ c) j ∗ ∃ W, owes (c : Thread nD τ) (owR c j) W)

/-- Waits for arrivals. Before: the position on the receive cell, its credit, and the row if nothing arrives in it.
    After: the counter at zero, and the row, holding the sender's sums if something arrived. -/
def rcvF (d : Fin 32) : sProp 𝕄 :=
  iprop(atPos ER (recvCell c d) 0 ∅ 0 ∗ opt (dnOk c d) (cred (tallyAt (recvCell c d) () N)) ∗ keepA c d)
def gotF (d : Fin 32) : sProp 𝕄 :=
  iprop(semVal (recvCell c d) 0 ∗ ∃ g, ⌜dnOk c d → g = fill (tot m ρ (dn c d))⌝ ∗ rowPts c d fullShare g)
def stF (j : ℕ) : sProp 𝕄 := iprop(ph (rcvF c) (gotF m ρ c) j ∗ ∃ W, owes (c : Thread nD τ) 0 W)

/-- Waits for departures: the parts of row 0 come back. -/
def sndH (d : Fin 32) : sProp 𝕄 := iprop(atPos ER (sendCell c d) 0 ∅ 0 ∗ sntD m ρ c d)
def tokH (d : Fin 32) : sProp 𝕄 := iprop(semVal (sendCell c d) 0 ∗ rowTok m ρ c d)
def stH (j : ℕ) : sProp 𝕄 := iprop(ph (sndH m ρ c) (tokH m ρ c) j ∗ ∃ W, owes (c : Thread nD τ) 0 W)

theorem sigA_pos {d : Fin 32} (h : dnOk c d) : sigA (F := F) c d = iprop(rowAny c d ∗ dutyTok ER (barCell (dn c d)) 0 d) := by
  unfold sigA; rw [opt_pos h]
omit [FloatOps F] in
theorem keepA_pos {d : Fin 32} (h : ¬ dnOk c d) : keepA (F := F) c d = rowAny c d := opt_pos h _
omit [FloatOps F] in
theorem keepA_neg {d : Fin 32} (h : dnOk c d) : keepA (F := F) c d = iprop(emp) := opt_neg (not_not.mpr h) _
theorem sndD_pos {d : Fin 32} (h : upOk c d) : sndD m ρ c d =
    iprop(rowTok m ρ c d ∗ rowAny (up c d) d ∗ dutyTok ER (sendCell c d) 0 0 ∗ dutyTok ER (recvCell (up c d) d) 0 0) := by
  unfold sndD; rw [opt_pos h]
theorem rcvF_pos {d : Fin 32} (h : dnOk c d) : rcvF (F := F) c d =
    iprop(atPos ER (recvCell c d) 0 ∅ 0 ∗ cred (tallyAt (recvCell c d) () N)) := by
  unfold rcvF; rw [opt_pos h, keepA_neg c h]; exact congrArg _ (equiv_iff.mp sep_emp)
theorem rcvF_neg {d : Fin 32} (h : ¬ dnOk c d) : rcvF (F := F) c d = iprop(atPos ER (recvCell c d) 0 ∅ 0 ∗ rowAny c d) := by
  unfold rcvF; rw [opt_neg h, keepA_pos c h]; exact congrArg _ (equiv_iff.mp emp_sep)
theorem sndH_pos {d : Fin 32} (h : upOk c d) : sndH m ρ c d = iprop(atPos ER (sendCell c d) 0 ∅ 0 ∗ cred (tallyAt (sendCell c d) () N)) := by
  unfold sndH sntD; rw [if_pos h]
theorem sndH_neg {d : Fin 32} (h : ¬ upOk c d) : sndH m ρ c d = iprop(atPos ER (sendCell c d) 0 ∅ 0 ∗ rowTok m ρ c d) := by
  unfold sndH sntD; rw [if_neg h]
end States

/-! ## What a transfer leaves -/

/-- A row holding `t` written over row `d` leaves `t` there. -/
theorem landed (c : Dev nD) (d : Fin 32) (t : FVec F S1x512 .f32) (fd : Buf (Elt F) ((rowM d).view.loc (c : Thread nD τ))) :
    ((rowM d).view.loc (c : Thread nD τ) ↦[(rowM d).view.set]{fullShare}
        (rowM d).view.write (Elt F) fd ((rowM 0).view.read (Elt F) (fill t)) Finset.univ : sProp 𝕄)
      = rowPts c d fullShare (fill t) := by
  unfold rowPts
  refine pointsTo_congr fun i hi => ?_
  obtain ⟨y, -, rfl⟩ := Finset.mem_map.1 hi
  rw [View.write_emb_of_mem _ _ (Finset.mem_univ y), View.read_apply]
  have h : ∀ e : Fin 32, rowIdx ((rowM e).view.emb y) = y := fun e => by
    funext a
    refine Fin.ext ?_
    match a with
    | ⟨0, _⟩ => show 0 = (y 0).val; have : (y 0).val < 1 := (y 0).isLt; omega
    | ⟨1, _⟩ => show 0 + 1 * (y 1).val = (y 1).val; omega
  show t (rowIdx ((rowM 0).view.emb y)) = t (rowIdx ((rowM d).view.emb y))
  rw [h, h]

/-! ## The rules -/

section Rules
variable (K : Dev nD × Cx → ℕ) (c : Dev nD) {α : Type}

theorem step_signal {Q : α → sProp 𝕄} {rest : Prog (TpuEff nD τ sig (Elt F) Λ₀ .tc) α} {R : sProp 𝕄} (d : Fin 32) (h1 : 1 ≤ d.val) {b : BitVec 1} {n : b = 1#1 → Dev nD} (hb : b = 1#1 ↔ dnOk c d)
    (hn : ∀ h, dnOk c d → (n h).val = (dn c d).val)
    (h : iprop(know m ρ K ∗ stA c (d.val + 1) ∗ R) ⊢ wpc c rest Q) :
    iprop(know m ρ K ∗ stA c d.val ∗ R)
      ⊢ wpc c (dite (b = 1#1) (fun h => semSignalWord (n h) barS 1#32 >>= fun _ => rest) (fun _ => rest)) Q := by
  by_cases hc : dnOk c d
  · have hbt := hb.mpr hc
    rw [dif_pos hbt, show n hbt = dn c d from Fin.ext (hn hbt hc)]
    unfold semSignalWord
    rw [Prog.bind_op]
    unfold know stA
    iintro ⟨⟨#Hrec, #Hlev⟩, ⟨Hph, ⟨%W, HO⟩⟩, HR⟩
    ihave Hph := (ph_step _ _ d h1) $$ Hph
    icases Hph with ⟨HA, Hph⟩
    ihave HA := (Entails.of_eq (sigA_pos c hc)) $$ HA
    icases HA with ⟨Hrow, Htok⟩
    iapply (Rounds.wp_signal 𝒱₀ ER (Rd m ρ) (c : Thread nD τ) none (dst := (dn c d : Thread nD τ)) (κ := K (dn c d, bx))
        (d := d) (by rw [duties_bar]; exact mem_ups.mpr (upOk_dn hc)) ((amount_reg m ρ (dn c d) 0 d barS).trans (by decide)) ()
        (O₀ := owA c d.val + owR c 1) (owA c (d.val + 1) + owR c 1)
        (by unfold owA; rw [sumFrom_take _ _ d hc]; exact add_right_comm _ _ _))
      $$ [HO Htok Hrow]
    · isplitr; · iapply (inv_at m ρ K (dn c d, bx)); iexact Hrec
      isplitl [HO]; · iexact HO
      isplitl [Htok]; · iexact Htok
      isplitl [Hrow]; · rw [payload_bar, up_dn hc]; iexact Hrow
      iapply (reached_at m ρ K (dn c d, bx)); iexact Hrec
    iintro HO
    rw [Prog.bind_ret]
    iapply h
    unfold know stA
    isplitr; · isplitr <;> iassumption
    isplitl [HO Hph]
    · isplitl [Hph]
      · iapply Hph; rw [keepA_neg c hc]; iempintro
      · iexists W; iexact HO
    iexact HR
  · rw [dif_neg (fun hbt => hc (hb.mp hbt))]
    refine ent_trans ?_ h
    unfold stA owA
    rw [sumFrom_skip _ _ d hc]
    iintro ⟨#Hk, ⟨Hph, HO⟩, HR⟩
    isplitr; · iexact Hk
    isplitl [HO Hph]
    · isplitl [Hph]
      · ihave Hph := (ph_step _ _ d h1) $$ Hph
        icases Hph with ⟨HA, Hph⟩
        unfold sigA
        icases HA with ⟨Hrow, -⟩
        iapply Hph; rw [keepA_pos c hc]
        iexact Hrow
      · iexact HO
    iexact HR

theorem step_wait {Q : α → sProp 𝕄} {rest : Prog (TpuEff nD τ sig (Elt F) Λ₀ .tc) α} {R : sProp 𝕄} (d : Fin 32) (h1 : 1 ≤ d.val) {b : BitVec 1} (hb : b = 1#1 ↔ upOk c d)
    (h : iprop(know m ρ K ∗ stW c (d.val + 1) ∗ R) ⊢ wpc c rest Q) :
    iprop(know m ρ K ∗ stW c d.val ∗ R)
      ⊢ wpc c (dite (b = 1#1) (fun _ => semWaitWord barS 1#32 >>= fun _ => rest) (fun _ => rest)) Q := by
  have hc31 : c.val < 32 := c.isLt
  by_cases hc : upOk c d
  · have hbt := hb.mpr hc
    have hd := hc.2
    rw [dif_pos hbt]
    unfold semWaitWord
    rw [Prog.bind_op]
    unfold know stW
    iintro ⟨⟨#Hrec, #Hlev⟩, ⟨%T, %hT, Hat, Hrows, Hc, ⟨%W, HO⟩⟩, HR⟩
    rw [show 31 - c.val - (d.val - 1) = (31 - c.val - (d.val + 1 - 1)) + 1 by omega, ← tallyAt_add]
    ihave Hc := (cred_add _ _).1 $$ Hc
    icases Hc with ⟨Hc, Hc1⟩
    iapply (Rounds.wp_wait 𝒱₀ ER (Rd m ρ) (c : Thread nD τ) none (κ := K (c, bx)) (k' := 1)
        (wpE_semWait_eq 𝒱₀ (c : Thread nD τ) none Set.univ) (Set.mem_univ _) (cr := Finsupp.single () 1)
        (O := owR c 1) (W := W) {(SemLoc.reg barS, ())} (R := 0) (m := min (d.val - 1) (31 - c.val)) (T := T)
        (Util.total_single _ _) (image_single_subset _ _ _)) $$ [Hc1 HO Hat]
    · isplitr; · iapply (inv_at m ρ K (c, bx)); iexact Hrec
      isplitl [Hc1]; · iexact Hc1
      isplitl [HO]; · iexact HO
      isplitr; · iapply (mayWait_bar c 1); iexact Hlev
      iexact Hat
    iintro %S ⟨%hS, HO, Hat, Hnew⟩
    rw [duties_bar, expect_bar] at hS
    rw [Prog.bind_ret]
    iapply h
    unfold know stW
    isplitr; · isplitr <;> iassumption
    isplitl [HO Hat Hrows Hnew Hc]
    · iexists S
      rw [show min (d.val - 1) (31 - c.val) + 1 = min (d.val + 1 - 1) (31 - c.val) by omega] at hS ⊢
      isplitr; · ipureintro; exact ⟨hS.2.1, hS.2.2⟩
      isplitl [Hat]; · iexact Hat
      isplitl [Hrows Hnew]
      · iapply (Entails.of_eq (bigSep_part hS.1 (fun e => (rowAny (up c e) e : sProp 𝕄))).symm)
        isplitl [Hrows]; · iexact Hrows
        iexact Hnew
      isplitl [Hc]; · iexact Hc
      iexists _; iexact HO
    iexact HR
  · rw [dif_neg (fun hbt => hc (hb.mp hbt))]
    have hlt : 31 - c.val ≤ d.val - 1 := by
      have : ¬ (c.val + d.val ≤ 31) := fun h' => hc ⟨h1, h'⟩
      omega
    have hst : (stW c d.val : sProp 𝕄) = stW c (d.val + 1) := by
      unfold stW
      rw [show min (d.val - 1) (31 - c.val) = min (d.val + 1 - 1) (31 - c.val) by omega,
        show 31 - c.val - (d.val - 1) = 31 - c.val - (d.val + 1 - 1) by omega]
    rw [hst]; exact h

theorem step_send {Q : α → sProp 𝕄} {rest : Prog (TpuEff nD τ sig (Elt F) Λ₀ .tc) α} {R : sProp 𝕄} (d : Fin 32) (h1 : 1 ≤ d.val) {b : BitVec 1} {n : b = 1#1 → Dev nD} (hb : b = 1#1 ↔ upOk c d)
    (hn : ∀ h, (n h).val = (up c d).val) {src dst : Memref sig .tc .vmem S1x512 .f32} {qs qr : DmaSems sig S_}
    (hsrc : src = rowM 0) (hdst : dst = rowM d) (hqs : qs = sendA d) (hqr : qr = recvA d)
    {hsc : dst.view.ref.isScScratch = false} {hw₁ : src.view.WordExact} {hw₂ : dst.view.WordExact}
    {ht : ∀ h, DmaTarget.Typed (nD := nD) (τ := τ) .vmem (.dma qr.sem) (.remote (Dev.tc (n h)) dst (.dma qs.sem) hsc)}
    (h : iprop(know m ρ K ∗ stD m ρ c (d.val + 1) ∗ R) ⊢ wpc c rest Q) :
    iprop(know m ρ K ∗ stD m ρ c d.val ∗ R)
      ⊢ wpc c (dite (b = 1#1)
          (fun h => Prog.lift (.enqueueDma src (.remote (Dev.tc (n h)) dst (.dma qs.sem) hsc) (.dma qr.sem) hw₁ hw₂ (ht h)) >>= fun _ => rest)
          (fun _ => rest)) Q := by
  subst hsrc hdst hqs hqr
  by_cases hc : upOk c d
  · have hbt := hb.mpr hc
    rw [dif_pos hbt]
    generalize ht hbt = ht'
    clear ht
    have hnn : n hbt = up c d := Fin.ext (hn hbt)
    generalize n hbt = n' at ht' hnn
    subst hnn
    generalize hq₁ : (sendA d).sem = q₁ at ht'
    generalize hq₂ : (recvA d).sem = q₂ at ht'
    rw [sendA_sem] at hq₁
    rw [recvA_sem] at hq₂
    subst hq₁ hq₂
    unfold Prog.lift
    rw [Prog.bind_op]
    unfold know stD
    iintro ⟨⟨#Hrec, #Hlev⟩, ⟨Hph, ⟨%W, HO⟩⟩, HR⟩
    ihave Hph := (ph_step _ _ d h1) $$ Hph
    icases Hph with ⟨HA, Hph⟩
    ihave HA := (Entails.of_eq (sndD_pos m ρ c hc)) $$ HA
    unfold rowAny
    icases HA with ⟨Hsrc, ⟨%fd, Hdst⟩, Hts, Htr⟩
    unfold rowTok rowPts
    iapply (Rounds.wp_send_pointsTo 𝒱₀ ER (Rd m ρ) (c : Thread nD τ) none (κ₁ := K (c, sx d)) (κ₂ := K (up c d, rx d))
        (r₁ := 0) (r₂ := 0) (d₁ := 0) (d₂ := 0) (fd := fd)
        (by rw [duties_send m ρ c d hc]; exact Finset.mem_singleton_self _)
        (by rw [duties_recv m ρ _ d (dnOk_up hc)]; exact Finset.mem_singleton_self _)
        () () N rfl (amount_dma m ρ c 0 0 _) (amount_dma m ρ (up c d) 0 0 _) (O₀ := owR c d.val) (owR c (d.val + 1))
        (by unfold owR; exact sumFrom_take _ _ d hc) (W := W)
        (by rw [payload_send]; unfold rowTok rowPts; exact BI.Entails.refl _)
        (by rw [payload_recv, landed]; unfold rowGot; rw [dn_up hc])) $$ [Hsrc Hdst HO Hts Htr]
    · isplitr; · iapply (inv_at m ρ K (c, sx d)); iexact Hrec
      isplitr; · iapply (inv_at m ρ K (up c d, rx d)); iexact Hrec
      isplitl [Hsrc]; · iexact Hsrc
      isplitl [Hdst]; · iexact Hdst
      isplitl [HO]; · iexact HO
      isplitl [Hts]; · iexact Hts
      isplitr; · iapply (reached_at m ρ K (c, sx d)); iexact Hrec
      isplitl [Htr]; · iexact Htr
      iapply (reached_at m ρ K (up c d, rx d)); iexact Hrec
    iintro ⟨Hcr, HO⟩
    rw [Prog.bind_ret]
    iapply h
    unfold know stD
    isplitr; · isplitr <;> iassumption
    isplitl [HO Hph Hcr]
    · isplitl [Hph Hcr]
      · iapply Hph; unfold sntD; rw [if_pos hc]; iexact Hcr
      · iexists W; iexact HO
    iexact HR
  · rw [dif_neg (fun hbt => hc (hb.mp hbt))]
    refine ent_trans ?_ h
    unfold stD owR
    rw [sumFrom_skip _ _ d hc]
    iintro ⟨#Hk, ⟨Hph, HO⟩, HR⟩
    isplitr; · iexact Hk
    isplitl [HO Hph]
    · isplitl [Hph]
      · ihave Hph := (ph_step _ _ d h1) $$ Hph
        icases Hph with ⟨HA, Hph⟩
        unfold sndD
        icases HA with ⟨Hrow, -⟩
        iapply Hph; unfold sntD; rw [if_neg hc]
        iexact Hrow
      · iexact HO
    iexact HR

theorem step_recv {Q : α → sProp 𝕄} {rest : Prog (TpuEff nD τ sig (Elt F) Λ₀ .tc) α} {R : sProp 𝕄} (d : Fin 32) (h1 : 1 ≤ d.val) {b : BitVec 1} (hb : b = 1#1 ↔ dnOk c d)
    {src dst : Memref sig .tc .vmem S1x512 .f32} {qr : DmaSems sig S_} (hdst : dst = rowM d) (hqr : qr = recvA d)
    {hw₁ : src.view.WordExact} {hw₂ : dst.view.WordExact}
    (h : iprop(know m ρ K ∗ stF m ρ c (d.val + 1) ∗ R) ⊢ wpc c rest Q) :
    iprop(know m ρ K ∗ stF m ρ c d.val ∗ R)
      ⊢ wpc c (dite (b = 1#1) (fun _ => Prog.lift (.waitDma2 qr.sem src dst hw₁ hw₂) >>= fun _ => rest) (fun _ => rest)) Q := by
  subst hdst hqr
  unfold know stF
  iintro ⟨⟨#Hrec, #Hlev⟩, ⟨Hph, ⟨%W, HO⟩⟩, HR⟩
  ihave Hph := (ph_step _ _ d h1) $$ Hph
  icases Hph with ⟨HA, Hph⟩
  by_cases hc : dnOk c d
  · ihave HA := (Entails.of_eq (rcvF_pos c hc)) $$ HA
    icases HA with ⟨Hat, Hcr⟩
    rw [dif_pos (hb.mpr hc), recvA_sem]
    unfold Prog.lift
    rw [Prog.bind_op]
    iapply (Rounds.wp_wait_rest_token 𝒱₀ ER (Rd m ρ) (c : Thread nD τ) none (κ := K (c, rx d))
        (wpE_waitDma2_eq 𝒱₀ (c : Thread nD τ) none Set.univ) (Set.mem_univ _) () (O := 0) (W := W) (R := 0) (m := 0) (T := ∅)
        (by rw [Nat.zero_add, expect_recv m ρ c d hc])) $$ [Hcr HO Hat]
    · isplitr; · iapply (inv_at m ρ K (c, rx d)); iexact Hrec
      isplitl [Hcr]; · iexact Hcr
      isplitl [HO]; · iexact HO
      isplitr; · rw [MayWait_zero]; iempintro
      iexact Hat
    iintro ⟨HO, Hat, -, Hpay⟩
    ihave Hgot := (Entails.of_eq (rest_recv m ρ c d hc)) $$ Hpay
    imod (Rounds.cell_close ER (Rd m ρ) (Set.mem_univ (K (c, rx d))) (fun h => h) (R := 0 + 1) (duties_later m ρ (recvCell c d))) $$ [Hat] with Hz
    · isplitr; · iapply (inv_at m ρ K (c, rx d)); iexact Hrec
      iexact Hat
    rw [Prog.bind_ret]
    iapply h
    unfold know stF
    isplitr; · isplitr <;> iassumption
    isplitl [HO Hph Hz Hgot]
    · isplitl [Hph Hz Hgot]
      · iapply Hph; unfold gotF
        isplitl [Hz]; · iexact Hz
        iexists (fill (tot m ρ (dn c d)))
        isplitr; · ipureintro; exact fun _ => rfl
        unfold rowGot; iexact Hgot
      · iexists _; iexact HO
    iexact HR
  · ihave HA := (Entails.of_eq (rcvF_neg c hc)) $$ HA
    icases HA with ⟨Hat, Hrow⟩
    rw [dif_neg (fun hbt => hc (hb.mp hbt))]
    imod (Rounds.cell_close ER (Rd m ρ) (Set.mem_univ (K (c, rx d))) (fun h => h) (R := 0) (recv_none m ρ c d hc)) $$ [Hat] with Hz
    · isplitr; · iapply (inv_at m ρ K (c, rx d)); iexact Hrec
      iexact Hat
    iapply h
    unfold know stF
    isplitr; · isplitr <;> iassumption
    isplitl [HO Hph Hz Hrow]
    · isplitl [Hph Hz Hrow]
      · iapply Hph; unfold gotF
        unfold rowAny
        icases Hrow with ⟨%f, Hrow⟩
        isplitl [Hz]; · iexact Hz
        iexists f
        isplitr; · ipureintro; exact fun h' => absurd h' hc
        iexact Hrow
      · iexists _; iexact HO
    iexact HR

theorem step_sent {Q : α → sProp 𝕄} {rest : Prog (TpuEff nD τ sig (Elt F) Λ₀ .tc) α} {R : sProp 𝕄} (d : Fin 32) (h1 : 1 ≤ d.val) {b : BitVec 1} (hb : b = 1#1 ↔ upOk c d)
    {src dst : Memref sig .tc .vmem S1x512 .f32} {qs : DmaSems sig S_} (hdst : dst = rowM 0) (hqs : qs = sendA d)
    {hw₁ : src.view.WordExact} {hw₂ : dst.view.WordExact}
    (h : iprop(know m ρ K ∗ stH m ρ c (d.val + 1) ∗ R) ⊢ wpc c rest Q) :
    iprop(know m ρ K ∗ stH m ρ c d.val ∗ R)
      ⊢ wpc c (dite (b = 1#1) (fun _ => Prog.lift (.waitDma2 qs.sem src dst hw₁ hw₂) >>= fun _ => rest) (fun _ => rest)) Q := by
  subst hdst hqs
  unfold know stH
  iintro ⟨⟨#Hrec, #Hlev⟩, ⟨Hph, ⟨%W, HO⟩⟩, HR⟩
  ihave Hph := (ph_step _ _ d h1) $$ Hph
  icases Hph with ⟨HA, Hph⟩
  by_cases hc : upOk c d
  · ihave HA := (Entails.of_eq (sndH_pos m ρ c hc)) $$ HA
    icases HA with ⟨Hat, Hcr⟩
    rw [dif_pos (hb.mpr hc), sendA_sem]
    unfold Prog.lift
    rw [Prog.bind_op]
    iapply (Rounds.wp_wait_rest_token 𝒱₀ ER (Rd m ρ) (c : Thread nD τ) none (κ := K (c, sx d))
        (wpE_waitDma2_eq 𝒱₀ (c : Thread nD τ) none Set.univ) (Set.mem_univ _) () (O := 0) (W := W) (R := 0) (m := 0) (T := ∅)
        (by rw [Nat.zero_add, expect_send m ρ c d hc])) $$ [Hcr HO Hat]
    · isplitr; · iapply (inv_at m ρ K (c, sx d)); iexact Hrec
      isplitl [Hcr]; · iexact Hcr
      isplitl [HO]; · iexact HO
      isplitr; · rw [MayWait_zero]; iempintro
      iexact Hat
    iintro ⟨HO, Hat, -, Hpay⟩
    ihave Hgot := (Entails.of_eq (rest_send m ρ c d hc)) $$ Hpay
    imod (Rounds.cell_close ER (Rd m ρ) (Set.mem_univ (K (c, sx d))) (fun h => h) (R := 0 + 1) (duties_later m ρ (sendCell c d))) $$ [Hat] with Hz
    · isplitr; · iapply (inv_at m ρ K (c, sx d)); iexact Hrec
      iexact Hat
    rw [Prog.bind_ret]
    iapply h
    unfold know stH
    isplitr; · isplitr <;> iassumption
    isplitl [HO Hph Hz Hgot]
    · isplitl [Hph Hz Hgot]
      · iapply Hph; unfold tokH
        isplitl [Hz] <;> iassumption
      · iexists _; iexact HO
    iexact HR
  · ihave HA := (Entails.of_eq (sndH_neg m ρ c hc)) $$ HA
    icases HA with ⟨Hat, Hcr⟩
    rw [dif_neg (fun hbt => hc (hb.mp hbt))]
    imod (Rounds.cell_close ER (Rd m ρ) (Set.mem_univ (K (c, sx d))) (fun h => h) (R := 0) (send_none m ρ c d hc)) $$ [Hat] with Hz
    · isplitr; · iapply (inv_at m ρ K (c, sx d)); iexact Hrec
      iexact Hat
    iapply h
    unfold know stH
    isplitr; · isplitr <;> iassumption
    isplitl [HO Hph Hz Hcr]
    · isplitl [Hph Hz Hcr]
      · iapply Hph; unfold tokH
        isplitl [Hz] <;> iassumption
      · iexists _; iexact HO
    iexact HR

theorem step_pure {Q : α → sProp 𝕄} {x : α} {P : sProp 𝕄} (h : P ⊢ Q x) : P ⊢ wpc c (pure x) Q := by
  rw [Prog.pure_eq_ret]
  show P ⊢ wp _ _ _ _ _
  rw [wp_ret]
  iintro H
  imodintro
  iapply h
  iexact H

end Rules

end Cert.Scan

end
-- ==== Proof.Printed.lean ====
/-
# The rounds as the kernel prints them

The rules of one round, with the condition, the device and the memrefs the kernel's text has at distance `j`.
-/
module

public import proofs.«01_k».proof.Proof.Steps

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Printed
variable (K : Dev nD × Cx → ℕ) (c : Dev nD) {α : Type}

theorem step_dev {P : sProp 𝕄} {Q : α → sProp 𝕄} {k : Dev nD → Prog (TpuEff nD τ sig (Elt F) Λ₀ .tc) α} (h : P ⊢ wpc c (k c) Q) :
    P ⊢ wpc c (Prog.lift .deviceId >>= k) Q := by
  unfold Prog.lift
  rw [Prog.bind_op]
  show P ⊢ wp _ _ _ _ _
  rw [wp_deviceId, Prog.bind_ret]
  exact h

/-- The condition "there is a later device at distance `j`", from the position's word. -/
abbrev upW (c : Dev nD) (j : ℕ) : BitVec 1 :=
  Scalar.cmpi .ne (Scalar.extui (Scalar.cmpi .sle (Scalar.addi (posW c) (BitVec.ofNat 32 j)) 31#32)) 0#32
/-- The condition "there is an earlier device at distance `j`". -/
abbrev dnW (c : Dev nD) (j : ℕ) : BitVec 1 := Scalar.cmpi .ne (Scalar.extui (Scalar.cmpi .sge (posW c) (BitVec.ofNat 32 j))) 0#32

theorem round_signal {j : ℕ} {Q : α → sProp 𝕄} {rest : Prog (TpuEff nD τ sig (Elt F) Λ₀ .tc) α} {R : sProp 𝕄}
    {hlt : dnW c j = 1#1 → (Scalar.addi 0#32 (Scalar.muli (Scalar.subi (posW c) (BitVec.ofNat 32 j)) 1#32)).toNat < nD}
    (h : iprop(know m ρ K ∗ stA c (j + 1) ∗ R) ⊢ wpc c rest Q) (hj : j < 32 := by decide) (h1 : 1 ≤ j := by decide) :
    iprop(know m ρ K ∗ stA c j ∗ R)
      ⊢ wpc c (dite (dnW c j = 1#1) (fun h => semSignalWord ⟨_, hlt h⟩ barS 1#32 >>= fun _ => rest) (fun _ => rest)) Q :=
  step_signal m ρ K c ⟨j, hj⟩ h1 (n := fun h => ⟨_, hlt h⟩) (cond_dn c ⟨j, hj⟩ h1) (fun _ h => dev_dn c ⟨j, hj⟩ h) h

theorem round_wait {j : ℕ} {Q : α → sProp 𝕄} {rest : Prog (TpuEff nD τ sig (Elt F) Λ₀ .tc) α} {R : sProp 𝕄}
    (h : iprop(know m ρ K ∗ stW c (j + 1) ∗ R) ⊢ wpc c rest Q) (hj : j < 32 := by decide) (h1 : 1 ≤ j := by decide) :
    iprop(know m ρ K ∗ stW c j ∗ R)
      ⊢ wpc c (dite (upW c j = 1#1) (fun _ => semWaitWord barS 1#32 >>= fun _ => rest) (fun _ => rest)) Q :=
  step_wait m ρ K c ⟨j, hj⟩ h1 (cond_up c ⟨j, hj⟩ h1) h

/-- The word of the device at distance `j` after `c`, as the transfers name it. -/
abbrev upDev (c : Dev nD) (j : ℕ) : ℕ := (Scalar.addi 0#32 (Scalar.muli (Scalar.minsi (Scalar.addi (posW c) (BitVec.ofNat 32 j)) 31#32) 1#32)).toNat
theorem upDev_lt (c : Dev nD) {j : ℕ} (hj : j < 32) : upDev c j < nD :=
  Nat.lt_of_le_of_lt (Nat.le_of_eq (dev_up c ⟨j, hj⟩)) (up c ⟨j, hj⟩).isLt

theorem round_send {j : ℕ} (hj : j < 32) (h1 : 1 ≤ j) {Q : α → sProp 𝕄} {rest : Prog (TpuEff nD τ sig (Elt F) Λ₀ .tc) α} {R : sProp 𝕄}
    (h : iprop(know m ρ K ∗ stD m ρ c (j + 1) ∗ R) ⊢ wpc c rest Q) :
    iprop(know m ρ K ∗ stD m ρ c j ∗ R)
      ⊢ wpc c (dite (upW c j = 1#1)
          (fun _ => Prog.lift (.enqueueDma (rowM 0) (.remote (Dev.tc ⟨upDev c j, upDev_lt c hj⟩) (rowM ⟨j, hj⟩) (.dma (sendA ⟨j, hj⟩).sem) rfl)
            (.dma (recvA ⟨j, hj⟩).sem) (View.wordExact_bits rfl) (View.wordExact_bits rfl) ⟨⟨rfl, Or.inl rfl⟩, trivial⟩) >>= fun _ => rest)
          (fun _ => rest)) Q :=
  step_send m ρ K c ⟨j, hj⟩ h1 (n := fun _ => ⟨upDev c j, upDev_lt c hj⟩) (cond_up c ⟨j, hj⟩ h1) (fun _ => dev_up c ⟨j, hj⟩) rfl rfl rfl rfl
    (hsc := rfl) (hw₁ := View.wordExact_bits rfl) (hw₂ := View.wordExact_bits rfl) (ht := fun _ => ⟨⟨rfl, Or.inl rfl⟩, trivial⟩) h

theorem round_recv {j : ℕ} (hj : j < 32) (h1 : 1 ≤ j) {Q : α → sProp 𝕄} {rest : Prog (TpuEff nD τ sig (Elt F) Λ₀ .tc) α} {R : sProp 𝕄}
    (h : iprop(know m ρ K ∗ stF m ρ c (j + 1) ∗ R) ⊢ wpc c rest Q) :
    iprop(know m ρ K ∗ stF m ρ c j ∗ R)
      ⊢ wpc c (dite (dnW c j = 1#1)
          (fun _ => Prog.lift (.waitDma2 (recvA ⟨j, hj⟩).sem (rowM 0) (rowM ⟨j, hj⟩) (View.wordExact_bits rfl) (View.wordExact_bits rfl))
            >>= fun _ => rest) (fun _ => rest)) Q :=
  step_recv m ρ K c ⟨j, hj⟩ h1 (cond_dn c ⟨j, hj⟩ h1) rfl rfl h

theorem round_sent {j : ℕ} (hj : j < 32) (h1 : 1 ≤ j) {Q : α → sProp 𝕄} {rest : Prog (TpuEff nD τ sig (Elt F) Λ₀ .tc) α} {R : sProp 𝕄}
    (h : iprop(know m ρ K ∗ stH m ρ c (j + 1) ∗ R) ⊢ wpc c rest Q) :
    iprop(know m ρ K ∗ stH m ρ c j ∗ R)
      ⊢ wpc c (dite (upW c j = 1#1)
          (fun _ => Prog.lift (.waitDma2 (sendA ⟨j, hj⟩).sem (rowM ⟨j, hj⟩) (rowM 0) (View.wordExact_bits rfl) (View.wordExact_bits rfl))
            >>= fun _ => rest) (fun _ => rest)) Q :=
  step_sent m ρ K c ⟨j, hj⟩ h1 (cond_up c ⟨j, hj⟩ h1) rfl rfl h

end Printed

end Cert.Scan

end
-- ==== Proof.Rows.lean ====
/-
# The rows of the landing buffer

The landing buffer is its 32 rows, at any share; a whole buffer may be read with row 0 held at the share the transfers
have left.
-/
module

public import proofs.«01_k».proof.Proof.Printed

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Rows
variable (c : Dev nD)

theorem emb_row (d : Fin 32) (y : S1x512.Idx) : ((rowM d).view.emb y 0).val = d.val := by
  show d.val + 1 * (y 0).val = d.val
  have : (y 0).val < 1 := (y 0).isLt
  omega

theorem mem_row (d : Fin 32) (i : S32x512.Idx) : i ∈ (rowM d).view.set ↔ (i 0).val = d.val := by
  constructor
  · intro h
    obtain ⟨y, -, rfl⟩ := Finset.mem_map.1 h
    exact emb_row d y
  · intro h
    refine Finset.mem_map.2 ⟨rowIdx i, Finset.mem_univ _, ?_⟩
    funext a
    refine Fin.ext ?_
    match a with
    | ⟨0, _⟩ => show d.val + 1 * 0 = (i 0).val; omega
    | ⟨1, _⟩ => show 0 + 1 * (i 1).val = (i 1).val; omega

theorem rows_disj : ∀ d ∈ (Finset.univ : Finset (Fin 32)), ∀ d' ∈ (Finset.univ : Finset (Fin 32)), d ≠ d' →
    Disjoint ((rowM d).view.set) ((rowM d').view.set) := fun d _ d' _ hne => by
  rw [Finset.disjoint_left]
  intro i h h'
  exact hne (Fin.ext (((mem_row d i).1 h).symm.trans ((mem_row d' i).1 h')))

theorem rows_cover : (Finset.univ : Finset (Fin 32)).biUnion (fun d => (rowM d).view.set) = (Finset.univ : Finset S32x512.Idx) :=
  Finset.eq_univ_iff_forall.2 fun i => Finset.mem_biUnion.2 ⟨⟨(i 0).val, (i 0).isLt⟩, Finset.mem_univ _, (mem_row _ i).2 rfl⟩

/-- The whole landing buffer at share `q`. -/
def scrPts (q : PosShare TreeShare) (f : Buf (Elt F) ((c : Thread nD τ).loc cc0_scratch0)) : sProp 𝕄 :=
  ((c : Thread nD τ).loc cc0_scratch0) ↦{q} f

omit [FloatOps F] in
theorem scr_rows (q : PosShare TreeShare) (f : Buf (Elt F) ((c : Thread nD τ).loc cc0_scratch0)) :
    scrPts c q f = bigSep Finset.univ fun d => rowPts c d q f := by
  unfold scrPts rowPts
  rw [← pointsTo_biUnion (ℓ := (c : Thread nD τ).loc cc0_scratch0) Finset.univ (fun d => (rowM d).view.set) rows_disj, rows_cover]

/-- The contents whose row `d` is that of `g d`. -/
def glue (g : Fin 32 → Buf (Elt F) ((c : Thread nD τ).loc cc0_scratch0)) : Buf (Elt F) ((c : Thread nD τ).loc cc0_scratch0) :=
  fun i => g ⟨((i : S32x512.Idx) 0).val, ((i : S32x512.Idx) 0).isLt⟩ i

omit [FloatOps F] in
theorem row_glue (q : PosShare TreeShare) (g : Fin 32 → Buf (Elt F) ((c : Thread nD τ).loc cc0_scratch0)) (d : Fin 32) :
    (rowPts c d q (g d) : sProp 𝕄) = rowPts c d q (glue c g) := by
  unfold rowPts
  refine pointsTo_congr fun i hi => ?_
  have h := (mem_row d i).1 hi
  show g d i = g ⟨((i : S32x512.Idx) 0).val, _⟩ i
  rw [show (⟨((i : S32x512.Idx) 0).val, ((i : S32x512.Idx) 0).isLt⟩ : Fin 32) = d from Fin.ext h]

omit [FloatOps F] in
theorem scr_glue (q : PosShare TreeShare) (g : Fin 32 → Buf (Elt F) ((c : Thread nD τ).loc cc0_scratch0)) :
    (bigSep Finset.univ fun d => (rowPts c d q (g d) : sProp 𝕄)) = scrPts c q (glue c g) := by
  rw [scr_rows]
  exact BI.bigSep_congr fun d _ => row_glue c q g d

omit [FloatOps F] in
theorem bigSep_zero (A : Fin 32 → sProp 𝕄) : bigSep Finset.univ A = iprop(A 0 ∗ bigSep dists A) := bigSep_take (Finset.mem_univ 0) A

omit [FloatOps F] in
/-- A row in full is what is left of it after 32 parts were given away, and the parts. -/
theorem row_parts (d : Fin 32) (f : Buf (Elt F) ((c : Thread nD τ).loc cc0_scratch0)) :
    rowPts c d fullShare f ⊣⊢ (iprop(rowPts c d (Transfers.shareDrop fullShare 32) f
      ∗ bigSep Finset.univ fun e : Fin 32 => rowPts c d (Transfers.shareTok fullShare 32 e) f) : sProp 𝕄) := by
  unfold rowPts
  exact Transfers.pointsTo_toks fullShare 32

/-! ## Loads and stores -/

theorem row0_set : (cM.access (Rect.unit (s := S32x512) ![0, 0] S1x512.size inb_S32x512_S1x512_0_0)).set = (rowM 0).view.set := rfl

theorem stored (t : FVec F S1x512 .f32) (f : Buf (Elt F) ((rowM 0).view.loc (c : Thread nD τ))) :
    ((rowM 0).view.loc (c : Thread nD τ) ↦[(rowM 0).view.set]{fullShare} (rowM 0).view.write (Elt F) f t Finset.univ : sProp 𝕄)
      = rowPts c 0 fullShare (fill t) := by
  rw [← landed c 0 t f]
  refine congrArg _ (congrArg (fun w => (rowM 0).view.write (Elt F) f w Finset.univ) ?_)
  funext y
  rw [View.read_apply]
  show t y = t (rowIdx ((rowM 0).view.emb y))
  refine congrArg t ?_
  funext a
  refine Fin.ext ?_
  match a with
  | ⟨0, _⟩ => show (y 0).val = 0; have : (y 0).val < 1 := (y 0).isLt; omega
  | ⟨1, _⟩ => show (y 1).val = 0 + 1 * (y 1).val; omega

end Rows

end Cert.Scan

end
-- ==== Proof.Glue.lean ====
/-
# Between the loops of one device's run

Where one loop ends, the resources of the next are put together: after the signals the barrier waits, after those the
transfers, then the waits for arrivals, then the waits for departures.
-/
module

public import proofs.«01_k».proof.Proof.Rows

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_two {I : Type} [DecidableEq I] (s : Finset I) (A B : I → sProp 𝕄) :
    bigSep s (fun i => iprop(A i ∗ B i)) = iprop(bigSep s A ∗ bigSep s B) :=
  bigSep_sep' s A B
omit [FloatOps F] in
theorem opt_two (p : Prop) [Decidable p] (A B : sProp 𝕄) : opt p iprop(A ∗ B) = iprop(opt p A ∗ opt p B) := by
  by_cases h : p
  · rw [opt_pos h, opt_pos h, opt_pos h]
  · rw [opt_neg h, opt_neg h, opt_neg h]; exact (equiv_iff.mp emp_sep).symm

omit [FloatOps F] in
theorem sep_three (A B C : sProp 𝕄) : iprop((A ∗ B) ∗ C) = iprop(A ∗ B ∗ C) := by
  have h₁ : iprop((A ∗ B) ∗ C) ⊢ iprop(A ∗ B ∗ C) := by
    iintro ⟨⟨HA, HB⟩, HC⟩
    isplitl [HA]; · iexact HA
    isplitl [HB] <;> iassumption
  have h₂ : iprop(A ∗ B ∗ C) ⊢ iprop((A ∗ B) ∗ C) := by
    iintro ⟨HA, HB, HC⟩
    isplitl [HA HB]
    · isplitl [HA] <;> iassumption
    · iexact HC
  exact equiv_iff.mp ⟨h₁, h₂⟩

section Glue
variable (K : Dev nD × Cx → ℕ) (c : Dev nD)

/-! ## What waits for its loop -/

/-- The rows of `c`'s landing buffer nothing will arrive in. -/
def keepAll : sProp 𝕄 := bigSep dists (keepA (F := F) c)
/-- The positions on the receive cells and the credits to wait there. -/
def resR : sProp 𝕄 :=
  bigSep dists fun d => iprop(atPos ER (recvCell c d) 0 ∅ 0 ∗ opt (dnOk c d) (cred (tallyAt (recvCell c d) () N)))
/-- The positions on the send cells. -/
def resS : sProp 𝕄 := bigSep dists fun d => atPos ER (sendCell c d) 0 ∅ 0
/-- The tokens of the transfers. -/
def resT : sProp 𝕄 :=
  bigSep dists fun d => opt (upOk c d) iprop(dutyTok ER (sendCell c d) 0 0 ∗ dutyTok ER (recvCell (up c d) d) 0 0)
/-- The rows of the later devices' landing buffers that `c` writes. -/
def upRows : sProp 𝕄 := bigSep (ups c) fun d => rowAny (up c d) d
/-- Row 0 of `c`'s landing buffer less the parts the transfers read. -/
def rowLeft : sProp 𝕄 := rowPts c 0 (Transfers.shareDrop fullShare 32) (fill (tot m ρ c))
/-- The parts the transfers read, in the state the transfers leave them. -/
def sntAll : sProp 𝕄 := bigSep dists (sntD m ρ c)
def gotAll : sProp 𝕄 := bigSep dists (gotF m ρ c)

/-! ## From loop to loop -/

theorem glue_AW {R : sProp 𝕄} :
    iprop(know m ρ K ∗ stA c 32 ∗ atPos ER (barCell c) 0 ∅ 0 ∗ cred (tallyAt (barCell c) () (31 - c.val)) ∗ R)
      ⊢ iprop(know m ρ K ∗ stW c 1 ∗ keepAll c ∗ R) := by
  unfold stA stW keepAll owA
  rw [ph_end, sumFrom_end, zero_add]
  iintro ⟨#Hk, ⟨Hkeep, HO⟩, Hat, Hc, HR⟩
  isplitr; · iexact Hk
  isplitl [Hat Hc HO]
  · iexists ∅
    rw [show min (1 - 1) (31 - c.val) = 0 from Nat.zero_min _, show 31 - c.val - (1 - 1) = 31 - c.val from rfl]
    isplitr; · ipureintro; exact ⟨Finset.empty_subset _, by rw [Finset.sdiff_empty, Nat.zero_add]⟩
    isplitl [Hat]; · iexact Hat
    isplitr; · rw [BI.bigSep_empty]; iempintro
    isplitl [Hc] <;> iassumption
  isplitl [Hkeep] <;> iassumption

/-- The last barrier wait: every later device has signalled. -/
theorem glue_W {R : sProp 𝕄} {α : Type} {p : Prog (TpuEff nD τ sig (Elt F) Λ₀ .tc) α} {Q : α → sProp 𝕄}
    (h : iprop(know m ρ K ∗ (semVal (barCell c) 0 ∗ upRows c ∗ ∃ W, owes (c : Thread nD τ) (owR c 1) W) ∗ R) ⊢ wpc c p Q) :
    iprop(know m ρ K ∗ stW c 32 ∗ R) ⊢ wpc c p Q := by
  unfold know stW
  iintro ⟨⟨#Hrec, #Hlev⟩, ⟨%T, %hT, Hat, Hrows, -, HO⟩, HR⟩
  have hm : min (32 - 1) (31 - c.val) = 31 - c.val := Nat.min_eq_right (Nat.sub_le _ _)
  have hTe : T = ups c := by
    refine Finset.Subset.antisymm hT.1 (Finset.sdiff_eq_empty_iff_subset.mp (Finset.card_eq_zero.mp ?_))
    have := hT.2
    rw [hm, card_ups] at this
    omega
  subst hTe
  rw [hm]
  imod (Rounds.fupd_skip ER (Rd m ρ) (κ := K (c, bx)) (g := barCell c) (R := 0) (m := 31 - c.val) (T := ups c)
    (by rw [duties_bar]) (by rw [expect_bar, card_ups]) (Set.mem_univ _)) $$ [Hat] with ⟨Hat, -⟩
  · isplitr; · iapply (inv_at m ρ K (c, bx)); iexact Hrec
    iexact Hat
  imod (Rounds.cell_close ER (Rd m ρ) (Set.mem_univ (K (c, bx))) (fun h => h) (R := 0 + 1) (duties_later m ρ (barCell c))) $$ [Hat] with Hz
  · isplitr; · iapply (inv_at m ρ K (c, bx)); iexact Hrec
    iexact Hat
  iapply h
  unfold know upRows
  isplitr; · isplitr <;> iassumption
  isplitl [Hz Hrows HO]
  · isplitl [Hz]; · iexact Hz
    isplitl [Hrows] <;> iassumption
  iexact HR

theorem upRows_eq : (upRows c : sProp 𝕄) = bigSep dists fun d => opt (upOk c d) (rowAny (up c d) d) := by
  unfold upRows
  rw [show ups c = dists.filter (upOk c) from Finset.ext fun d => by
    rw [mem_ups, Finset.mem_filter, Finset.mem_erase]
    exact ⟨fun h => ⟨⟨fun h0 => by rw [h0] at h; exact absurd h.1 (by decide), Finset.mem_univ _⟩, h⟩, fun h => h.2⟩, BI.bigSep_filter]
  rfl

/-- Row 0 is dealt out and the transfers can start. -/
theorem glue_D {R : sProp 𝕄} :
    iprop(know m ρ K ∗ rowPts c 0 fullShare (fill (tot m ρ c)) ∗ upRows c ∗ resT c ∗ (∃ W, owes (c : Thread nD τ) (owR c 1) W) ∗ R)
      ⊢ iprop(know m ρ K ∗ stD m ρ c 1 ∗ (rowLeft m ρ c ∗ rowTok m ρ c 0) ∗ R) := by
  rw [upRows_eq]
  unfold stD rowLeft resT
  rw [ph_start]
  have h : (bigSep dists (sndD m ρ c) : sProp 𝕄) = iprop(bigSep dists (rowTok m ρ c)
      ∗ (bigSep dists fun d => opt (upOk c d) (rowAny (up c d) d))
      ∗ bigSep dists fun d => opt (upOk c d) iprop(dutyTok ER (sendCell c d) 0 0 ∗ dutyTok ER (recvCell (up c d) d) 0 0)) := by
    rw [← bigSep_two, ← bigSep_two]
    refine BI.bigSep_congr fun d _ => ?_
    unfold sndD
    rw [← opt_two]
  rw [h]
  iintro ⟨#Hk, Hrow, Hup, HT, HO, HR⟩
  isplitr; · iexact Hk
  ihave Hrow := ((row_parts c 0 (fill (tot m ρ c))).1) $$ Hrow
  icases Hrow with ⟨Hleft, Htoks⟩
  ihave Htoks := (Entails.of_eq (bigSep_zero (fun e : Fin 32 => rowPts c 0 (Transfers.shareTok fullShare 32 e) (fill (tot m ρ c))))) $$ Htoks
  icases Htoks with ⟨H0, Htoks⟩
  isplitl [Htoks Hup HT HO]
  · isplitl [Htoks Hup HT]
    · isplitl [Htoks]; · unfold rowTok; iexact Htoks
      isplitl [Hup] <;> iassumption
    · iexact HO
  isplitl [Hleft H0]
  · isplitl [Hleft]; · iexact Hleft
    unfold rowTok; iexact H0
  iexact HR

theorem glue_F {R : sProp 𝕄} :
    iprop(know m ρ K ∗ stD m ρ c 32 ∗ resR c ∗ keepAll c ∗ R) ⊢ iprop(know m ρ K ∗ stF m ρ c 1 ∗ sntAll m ρ c ∗ R) := by
  unfold stD stF owR keepAll resR sntAll
  rw [ph_start, ph_end, sumFrom_end]
  have h : (bigSep dists (rcvF c) : sProp 𝕄) = iprop((bigSep dists fun d => iprop(atPos ER (recvCell c d) 0 ∅ 0
      ∗ opt (dnOk c d) (cred (tallyAt (recvCell c d) () N)))) ∗ bigSep dists (keepA c)) := by
    rw [← bigSep_two]
    refine BI.bigSep_congr fun d _ => ?_
    unfold rcvF
    exact (sep_three _ _ _).symm
  rw [h]
  iintro ⟨#Hk, ⟨Hs, HO⟩, Hr, Hkeep, HR⟩
  isplitr; · iexact Hk
  isplitl [Hr Hkeep HO]
  · isplitl [Hr Hkeep]
    · isplitl [Hr] <;> iassumption
    · iexact HO
  isplitl [Hs] <;> iassumption

theorem glue_H {R : sProp 𝕄} :
    iprop(know m ρ K ∗ resS c ∗ sntAll m ρ c ∗ (∃ W, owes (c : Thread nD τ) 0 W) ∗ R) ⊢ iprop(know m ρ K ∗ stH m ρ c 1 ∗ R) := by
  unfold stH resS sntAll
  rw [ph_start]
  have h : (bigSep dists (sndH m ρ c) : sProp 𝕄)
      = iprop((bigSep dists fun d => atPos ER (sendCell c d) 0 ∅ 0) ∗ bigSep dists (sntD m ρ c)) := by
    rw [← bigSep_two]; exact BI.bigSep_congr fun d _ => rfl
  rw [h]
  iintro ⟨#Hk, HS, Hs, HO, HR⟩
  isplitr; · iexact Hk
  isplitl [HS Hs HO]
  · isplitl [HS Hs]
    · isplitl [HS] <;> iassumption
    · iexact HO
  iexact HR

end Glue

end Cert.Scan

end
-- ==== Proof.Mid.lean ====
/-
# The loads and stores of one device's run

Between the loops a device reads its block, writes the row of its column sums, and after the arrivals reads the whole
landing buffer and writes its result. At that reading the transfers may still be reading row 0, so it is done at the
share of row 0 they have left.
-/
module

public import proofs.«01_k».proof.Proof.Glue

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Mid
variable (K : Dev nD × Cx → ℕ) (c : Dev nD) {α : Type}

/-- The staging buffers of the block and of the result. -/
def stageX (X : Buf (Elt F) ((c : Thread nD τ).loc cc0_stg0_0)) : sProp 𝕄 := ((c : Thread nD τ).loc cc0_stg0_0) ↦{fullShare} X
def stageO (Y : Buf (Elt F) ((c : Thread nD τ).loc cc0_stg1_0)) : sProp 𝕄 := ((c : Thread nD τ).loc cc0_stg1_0) ↦{fullShare} Y

/-- The counters no transfer uses. -/
def zero2 : sProp 𝕄 := iprop(semVal (sendCell c 0) 0 ∗ semVal (recvCell c 0) 0)

theorem hz : (![0, 0] : Fin 2 → Nat) = fun _ => 0 := funext fun a => by fin_cases a <;> rfl

abbrev rAll : Rect S512x512 := Rect.unit (s := S512x512) ![0, 0] S512x512.size inb_S512x512_S512x512_0_0
abbrev rRow : Rect S32x512 := Rect.unit (s := S32x512) ![0, 0] S1x512.size inb_S32x512_S1x512_0_0
abbrev rScr : Rect S32x512 := Rect.unit (s := S32x512) ![0, 0] S32x512.size inb_S32x512_S32x512_0_0

omit [FloatOps F] in
theorem read_x (f : (cc0_stg0_0 : Ref sig .tc).ty.Contents (Elt F)) : xM.view.readAt (Elt F) rAll.toLoadRect f = f :=
  Memref.readAt_unit_zero (Elt F) cc0_stg0_0 hz _ f
omit [FloatOps F] in
theorem read_scr (f : (cc0_scratch0 : Ref sig .tc).ty.Contents (Elt F)) : cM.view.readAt (Elt F) rScr.toLoadRect f = f :=
  Memref.readAt_unit_zero (Elt F) cc0_scratch0 hz _ f
omit [FloatOps F] in
theorem write_out (f w : (cc0_stg1_0 : Ref sig .tc).ty.Contents (Elt F)) :
    (oM.access rAll).write (Elt F) f w Finset.univ = w :=
  Memref.write_access_unit_zero_univ (Elt F) cc0_stg1_0 hz _ f w

/-- The landing buffer holds, in each row something arrived in, the sender's sums. -/
def Got (g : Buf (Elt F) ((c : Thread nD τ).loc cc0_scratch0)) : Prop :=
  ∀ d : Fin 32, dnOk c d → ∀ i ∈ (rowM d).view.set, g i = fill (tot m ρ (dn c d)) i

variable (Y : Buf (Elt F) ((c : Thread nD τ).loc cc0_stg1_0))

/-- Aside during the transfers; -/
def asideD : sProp 𝕄 :=
  iprop((rowLeft m ρ c ∗ rowTok m ρ c 0) ∗ resR c ∗ keepAll c ∗ semVal (barCell c) 0 ∗ resS c ∗ zero2 c
    ∗ stageX c (xstg m ρ c) ∗ stageO c Y)
/-- during the waits for arrivals; -/
def asideF : sProp 𝕄 :=
  iprop(sntAll m ρ c ∗ (rowLeft m ρ c ∗ rowTok m ρ c 0) ∗ semVal (barCell c) 0 ∗ resS c ∗ zero2 c ∗ stageX c (xstg m ρ c) ∗ stageO c Y)
/-- during the waits for departures. -/
def asideH (v : BitVec 32) (w : FVec F S512x512 .f32) : sProp 𝕄 :=
  iprop((bigSep dists fun d => semVal (recvCell c d) 0) ∗ (bigSep dists fun d => rowAny c d) ∗ (rowLeft m ρ c ∗ rowTok m ρ c 0)
    ∗ semVal (barCell c) 0 ∗ zero2 c ∗ stageX c (xstg m ρ c) ∗ ∃ g, ⌜Got m ρ c g⌝ ∗ stageO c (k0_pay3 v w g))

/-- The sums of the columns are read off the block and stored in row 0. -/
theorem stored_row (f : Buf (Elt F) ((cM.access rRow).loc (c : Thread nD τ))) :
    ((cM.access rRow).loc (c : Thread nD τ) ↦[(rowM 0).view.set]{fullShare}
        (cM.access rRow).write (Elt F) f (k0_pay1 (xstg m ρ c)) Finset.univ : sProp 𝕄)
      = rowPts c 0 fullShare (fill (tot m ρ c)) := stored c (tot m ρ c) f

/-- From the last wait of the barrier to the first transfer. -/
theorem step_row {Q : α → sProp 𝕄} {hl₁ hl₂ hs hm} {k : PUnit → Prog (TpuEff nD τ sig (Elt F) Λ₀ .tc) α}
    (h : iprop(know m ρ K ∗ stD m ρ c 1 ∗ asideD m ρ c Y) ⊢ wpc c (k ⟨⟩) Q) :
    iprop(know m ρ K ∗ (semVal (barCell c) 0 ∗ upRows c ∗ ∃ W, owes (c : Thread nD τ) (owR c 1) W)
        ∗ keepAll c ∗ rowAny c 0 ∗ resT c ∗ resR c ∗ resS c ∗ zero2 c ∗ stageX c (xstg m ρ c) ∗ stageO c Y)
      ⊢ wpc c (Prog.lift (.load xM rAll.toLoadRect hl₁) >>= fun v =>
          Prog.lift (.load cM rRow.toLoadRect hl₂) >>= fun _ =>
          Prog.lift (.store cM rRow (k0_pay1 v) Finset.univ hs hm) >>= k) Q := by
  unfold Prog.lift
  simp only [Prog.bind_op, Prog.bind_ret]
  iintro ⟨#Hk, ⟨Hbar, Hup, HO⟩, Hkeep, Hrow, HT, HR, HS, Hz, Hx, Hy⟩
  unfold stageX
  iapply (wp_load 𝒱₀ (c : Thread nD τ) none Set.univ (m := xM) (Finset.subset_univ _)) $$ Hx
  iintro Hx
  rw [read_x]
  unfold rowAny
  icases Hrow with ⟨%f, Hrow⟩
  unfold rowPts
  iapply (wp_load 𝒱₀ (c : Thread nD τ) none Set.univ (m := cM) (r := rRow.toLoadRect) (S := (rowM 0).view.set)
    (View.set_slice cM.view rRow).symm.subset) $$ Hrow
  iintro Hrow
  iapply (wp_store 𝒱₀ (c : Thread nD τ) none Set.univ (m := cM) (r := rRow) (Mk := Finset.univ) (S := (rowM 0).view.set) (Finset.Subset.refl _)) $$ Hrow
  iintro Hrow
  ihave Hrow := (Entails.of_eq (stored_row m ρ c f)) $$ Hrow
  iapply h
  unfold asideD stageX
  iapply (glue_D m ρ K c)
  isplitr; · iexact Hk
  isplitl [Hrow]; · iexact Hrow
  isplitl [Hup]; · iexact Hup
  isplitl [HT]; · iexact HT
  isplitl [HO]; · iexact HO
  isplitl [HR]; · iexact HR
  isplitl [Hkeep]; · iexact Hkeep
  isplitl [Hbar]; · iexact Hbar
  isplitl [HS]; · iexact HS
  isplitl [Hz]; · iexact Hz
  isplitl [Hx]; · iexact Hx
  iexact Hy

/-- From the last transfer to the first arrival. -/
theorem step_mid {Q : α → sProp 𝕄} {hl} {k : Vec F S512x512 .f32 → Prog (TpuEff nD τ sig (Elt F) Λ₀ .tc) α}
    (h : iprop(know m ρ K ∗ stF m ρ c 1 ∗ asideF m ρ c Y) ⊢ wpc c (k (xstg m ρ c)) Q) :
    iprop(know m ρ K ∗ stD m ρ c 32 ∗ asideD m ρ c Y) ⊢ wpc c (Prog.lift (.load xM rAll.toLoadRect hl) >>= k) Q := by
  unfold Prog.lift
  simp only [Prog.bind_op, Prog.bind_ret]
  unfold asideD stageX
  iintro ⟨#Hk, HD, Hrow, HR, Hkeep, Hbar, HS, Hz, Hx, Hy⟩
  iapply (wp_load 𝒱₀ (c : Thread nD τ) none Set.univ (m := xM) (Finset.subset_univ _)) $$ Hx
  iintro Hx
  rw [read_x]
  iapply h
  unfold asideF stageX
  iapply (glue_F m ρ K c)
  isplitr; · iexact Hk
  isplitl [HD]; · iexact HD
  isplitl [HR]; · iexact HR
  isplitl [Hkeep]; · iexact Hkeep
  isplitl [Hrow]; · iexact Hrow
  isplitl [Hbar]; · iexact Hbar
  isplitl [HS]; · iexact HS
  isplitl [Hz]; · iexact Hz
  isplitl [Hx]; · iexact Hx
  iexact Hy

/-- The rows after the arrivals, each with what arrived in it. -/
theorem got_rows : (bigSep dists (gotF m ρ c) : sProp 𝕄) ⊢ iprop((bigSep dists fun d => semVal (recvCell c d) 0)
    ∗ ∃ g : Fin 32 → Buf (Elt F) ((c : Thread nD τ).loc cc0_scratch0), ⌜∀ d ∈ dists, dnOk c d → g d = fill (tot m ρ (dn c d))⌝
      ∗ bigSep dists fun d => rowPts c d fullShare (g d)) := by
  haveI : Nonempty (Buf (Elt F) ((c : Thread nD τ).loc cc0_scratch0)) := ⟨fill (tot m ρ c)⟩
  have h : (bigSep dists (gotF m ρ c) : sProp 𝕄) = iprop((bigSep dists fun d => semVal (recvCell c d) 0)
      ∗ bigSep dists fun d => iprop(∃ g : Buf (Elt F) ((c : Thread nD τ).loc cc0_scratch0),
          ⌜dnOk c d → g = fill (tot m ρ (dn c d))⌝ ∗ rowPts c d fullShare g)) := by
    rw [← bigSep_two]; exact BI.bigSep_congr fun d _ => rfl
  rw [h]
  iintro ⟨Hz, Hg⟩
  isplitl [Hz]; · iexact Hz
  ihave Hg := (bigSep_exists_pi dists (fun d (g : Buf (Elt F) ((c : Thread nD τ).loc cc0_scratch0)) =>
    (iprop(⌜dnOk c d → g = fill (tot m ρ (dn c d))⌝ ∗ rowPts c d fullShare g) : sProp 𝕄))) $$ Hg
  icases Hg with ⟨%g, Hg⟩
  ihave Hg := (bigSep_pure_sep dists (fun d => dnOk c d → g d = fill (tot m ρ (dn c d)))
    (fun d => (rowPts c d fullShare (g d) : sProp 𝕄))) $$ Hg
  icases Hg with ⟨%hg, Hg⟩
  iexists g
  isplitr; · ipureintro; exact hg
  iexact Hg

/-- The whole landing buffer, at what the transfers have left of row 0, to read it and to give it back. -/
theorem open_whole (g : Fin 32 → Buf (Elt F) ((c : Thread nD τ).loc cc0_scratch0)) :
    (iprop(rowLeft m ρ c ∗ bigSep dists fun d => rowPts c d fullShare (g d)) : sProp 𝕄)
      ⊢ iprop(∃ f, ⌜∀ d ∈ dists, ∀ i ∈ (rowM d).view.set, f i = g d i⌝ ∗ scrPts c (Transfers.shareDrop fullShare 32) f
        ∗ (scrPts c (Transfers.shareDrop fullShare 32) f -∗ rowLeft m ρ c ∗ bigSep dists fun d => rowAny c d)) := by
  let g' : Fin 32 → Buf (Elt F) ((c : Thread nD τ).loc cc0_scratch0) := fun d => if d = 0 then fill (tot m ρ c) else g d
  have h0 : g' 0 = fill (tot m ρ c) := if_pos rfl
  have hd : ∀ d ∈ dists, g' d = g d := fun d hd => if_neg (Finset.mem_erase.mp hd).1
  have hw : (iprop(rowLeft m ρ c ∗ bigSep dists fun d => rowPts c d (Transfers.shareDrop fullShare 32) (g d)) : sProp 𝕄)
      = scrPts c (Transfers.shareDrop fullShare 32) (glue c g') := by
    rw [← scr_glue, bigSep_zero, h0]
    unfold rowLeft
    rw [BI.bigSep_congr (s := dists) (Φ := fun d => (rowPts c d (Transfers.shareDrop fullShare 32) (g' d) : sProp 𝕄))
      (Ψ := fun d => rowPts c d (Transfers.shareDrop fullShare 32) (g d)) fun d h => by rw [hd d h]]
  have hs : (bigSep dists fun d => (rowPts c d fullShare (g d) : sProp 𝕄))
      ⊢ iprop((bigSep dists fun d => rowPts c d (Transfers.shareDrop fullShare 32) (g d))
        ∗ bigSep dists fun d => bigSep Finset.univ fun e : Fin 32 => rowPts c d (Transfers.shareTok fullShare 32 e) (g d)) := by
    rw [← bigSep_two]
    exact BI.bigSep_mono fun d _ => (row_parts c d (g d)).1
  have hj : iprop((bigSep dists fun d => rowPts c d (Transfers.shareDrop fullShare 32) (g d))
        ∗ bigSep dists fun d => bigSep Finset.univ fun e : Fin 32 => rowPts c d (Transfers.shareTok fullShare 32 e) (g d))
      ⊢ (bigSep dists fun d => (rowAny c d : sProp 𝕄)) := by
    rw [← bigSep_two]
    refine BI.bigSep_mono fun d _ => ?_
    refine ent_trans (row_parts c d (g d)).2 ?_
    unfold rowAny
    iintro H
    iexists (g d)
    iexact H
  iintro ⟨Hl, Hg⟩
  ihave Hg := hs $$ Hg
  icases Hg with ⟨Hd, Ht⟩
  iexists (glue c g')
  isplitr
  · ipureintro
    intro d h i hi
    have := (mem_row d i).1 hi
    show g' ⟨((i : S32x512.Idx) 0).val, _⟩ i = g d i
    rw [show (⟨((i : S32x512.Idx) 0).val, ((i : S32x512.Idx) 0).isLt⟩ : Fin 32) = d from Fin.ext this, hd d h]
  isplitl [Hl Hd]
  · iapply (Entails.of_eq hw)
    isplitl [Hl] <;> iassumption
  iintro Hw
  ihave Hw := (Entails.of_eq hw.symm) $$ Hw
  icases Hw with ⟨Hl, Hd⟩
  isplitl [Hl]; · iexact Hl
  iapply hj
  isplitl [Hd] <;> iassumption

/-- From the last arrival to the first departure. -/
theorem step_out {Q : α → sProp 𝕄} {v : BitVec 32} {w : FVec F S512x512 .f32} {hl₁ hl₂ hs hm}
    {k : PUnit → Prog (TpuEff nD τ sig (Elt F) Λ₀ .tc) α}
    (h : iprop(know m ρ K ∗ stH m ρ c 1 ∗ asideH m ρ c v w) ⊢ wpc c (k ⟨⟩) Q) :
    iprop(know m ρ K ∗ stF m ρ c 32 ∗ asideF m ρ c Y)
      ⊢ wpc c (Prog.lift (.load cM rScr.toLoadRect hl₁) >>= fun g =>
          Prog.lift (.load oM rAll.toLoadRect hl₂) >>= fun _ =>
          Prog.lift (.store oM rAll (k0_pay3 v w g) Finset.univ hs hm) >>= k) Q := by
  unfold Prog.lift
  simp only [Prog.bind_op, Prog.bind_ret]
  unfold asideF stF
  rw [ph_end]
  iintro ⟨#Hk, ⟨Hgot, HO⟩, Hsnt, ⟨Hleft, H0⟩, Hbar, HS, Hz, Hx, Hy⟩
  ihave Hgot := (got_rows m ρ c) $$ Hgot
  icases Hgot with ⟨Hzr, ⟨%g, %hg, Hrows⟩⟩
  ihave Hw := (open_whole m ρ c g) $$ [Hleft Hrows]
  · isplitl [Hleft] <;> iassumption
  icases Hw with ⟨%f, %hf, Hw, Hclose⟩
  unfold scrPts stageO
  iapply (wp_load 𝒱₀ (c : Thread nD τ) none Set.univ (m := cM) (Finset.subset_univ _)) $$ Hw
  iintro Hw
  rw [read_scr]
  iapply (wp_load 𝒱₀ (c : Thread nD τ) none Set.univ (m := oM) (Finset.subset_univ _)) $$ Hy
  iintro Hy
  iapply (wp_store 𝒱₀ (c : Thread nD τ) none Set.univ (m := oM) (r := rAll) (Mk := Finset.univ) (Finset.subset_univ _)) $$ Hy
  iintro Hy
  rw [write_out]
  ihave Hw := Hclose $$ Hw
  icases Hw with ⟨Hleft, Hrows⟩
  iapply h
  iapply (glue_H m ρ K c)
  unfold asideH stageO
  isplitr; · iexact Hk
  isplitl [HS]; · iexact HS
  isplitl [Hsnt]; · iexact Hsnt
  isplitl [HO]; · iexact HO
  isplitl [Hzr]; · iexact Hzr
  isplitl [Hrows]; · iexact Hrows
  isplitl [Hleft H0]; · isplitl [Hleft] <;> iassumption
  isplitl [Hbar]; · iexact Hbar
  isplitl [Hz]; · iexact Hz
  isplitl [Hx]; · iexact Hx
  iexists f
  isplitr
  · ipureintro
    intro d hc i hi
    have hm : d ∈ dists := Finset.mem_erase.mpr ⟨fun h0 => by rw [h0] at hc; exact absurd hc.1 (by decide), Finset.mem_univ _⟩
    rw [hf d hm i hi, hg d hm hc]
  iexact Hy

end Mid

end Cert.Scan

end
-- ==== Proof.Body.lean ====
/-
# One device's run

The parts of the printed body in their order, each round by the lemma of its loop.
-/
module

public import proofs.«01_k».proof.Proof.Mid

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

attribute [local irreducible] Scalar.cmpi Scalar.extui Scalar.addi Scalar.subi Scalar.muli Scalar.minsi Scalar.divsi Scalar.remsi

section Body
variable (K : Dev nD × Cx → ℕ) (c : Dev nD)

theorem step_bind {α β} {P : sProp 𝕄} {Q : β → sProp 𝕄} {p : Prog (TpuEff nD τ sig (Elt F) Λ₀ .tc) α}
    {k : α → Prog (TpuEff nD τ sig (Elt F) Λ₀ .tc) β} (h : P ⊢ wpc c p (fun a => wpc c (k a) Q)) :
    P ⊢ wpc c (p >>= k) Q := by
  show P ⊢ wp _ _ _ _ _
  rw [wp_bind]; exact h

variable (Y : Buf (Elt F) ((c : Thread nD τ).loc cc0_stg1_0))

/-- What a device holds when its run starts, beside the records; -/
def bodyPre : sProp 𝕄 :=
  iprop(stA c 1 ∗ atPos ER (barCell c) 0 ∅ 0 ∗ cred (tallyAt (barCell c) () (31 - c.val)) ∗ rowAny c 0 ∗ resT c ∗ resR c
    ∗ resS c ∗ zero2 c ∗ stageX c (xstg m ρ c) ∗ stageO c Y)

/-- and when it ends. -/
def bodyPost : sProp 𝕄 :=
  iprop(stH m ρ c 32 ∗ asideH m ρ c (posW c) (k0_pay2 (xstg m ρ c)))

set_option maxRecDepth 8000 in
theorem body : iprop(know m ρ K ∗ bodyPre m ρ c Y)
    ⊢ wpc c (cc0_body (F := F) xM (Memref.isWhole_whole _) oM (Memref.isWhole_whole _) cM (Memref.isWhole_whole _)
        cc0_scratch1 cc0_scratch2) (fun _ => bodyPost m ρ c) := by
  unfold bodyPre
  rw [cc0_body_eq_skeleton]
  refine step_bind c ?_
  rw [k0_part1_eq_skeleton]
  refine step_dev c ?_
  iterate 8 refine round_signal m ρ K c ?_
  refine step_pure c ?_
  refine step_bind c ?_
  rw [k0_part2_eq_skeleton]
  iterate 10 refine round_signal m ρ K c ?_
  refine step_pure c ?_
  refine step_bind c ?_
  rw [k0_part3_eq_skeleton]
  iterate 10 refine round_signal m ρ K c ?_
  refine step_pure c ?_
  refine step_bind c ?_
  rw [k0_part4_eq_skeleton]
  iterate 3 refine round_signal m ρ K c ?_
  refine ent_trans (glue_AW m ρ K c) ?_
  iterate 5 refine round_wait m ρ K c ?_
  refine step_pure c ?_
  refine step_bind c ?_
  rw [k0_part5_eq_skeleton]
  iterate 8 refine round_wait m ρ K c ?_
  refine step_pure c ?_
  refine step_bind c ?_
  rw [k0_part6_eq_skeleton]
  iterate 7 refine round_wait m ρ K c ?_
  refine step_pure c ?_
  refine step_bind c ?_
  rw [k0_part7_eq_skeleton]
  iterate 8 refine round_wait m ρ K c ?_
  refine step_pure c ?_
  refine step_bind c ?_
  rw [k0_part8_eq_skeleton]
  iterate 3 refine round_wait m ρ K c ?_
  refine glue_W m ρ K c ?_
  refine step_row m ρ K c Y ?_
  iterate 1 refine round_send m ρ K c ?_ ?_ ?_; decide; decide
  refine step_pure c ?_
  refine step_bind c ?_
  rw [k0_part9_eq_skeleton]
  iterate 5 refine round_send m ρ K c ?_ ?_ ?_; decide; decide
  refine step_pure c ?_
  refine step_bind c ?_
  rw [k0_part10_eq_skeleton]
  iterate 4 refine round_send m ρ K c ?_ ?_ ?_; decide; decide
  refine step_pure c ?_
  refine step_bind c ?_
  rw [k0_part11_eq_skeleton]
  iterate 4 refine round_send m ρ K c ?_ ?_ ?_; decide; decide
  refine step_pure c ?_
  refine step_bind c ?_
  rw [k0_part12_eq_skeleton]
  iterate 5 refine round_send m ρ K c ?_ ?_ ?_; decide; decide
  refine step_pure c ?_
  refine step_bind c ?_
  rw [k0_part13_eq_skeleton]
  iterate 4 refine round_send m ρ K c ?_ ?_ ?_; decide; decide
  refine step_pure c ?_
  refine step_bind c ?_
  rw [k0_part14_eq_skeleton]
  iterate 4 refine round_send m ρ K c ?_ ?_ ?_; decide; decide
  refine step_pure c ?_
  refine step_bind c ?_
  rw [k0_part15_eq_skeleton]
  iterate 4 refine round_send m ρ K c ?_ ?_ ?_; decide; decide
  refine step_mid m ρ K c Y ?_
  refine step_pure c ?_
  refine step_bind c ?_
  rw [k0_part16_eq_skeleton]
  iterate 7 refine round_recv m ρ K c ?_ ?_ ?_; decide; decide
  refine step_pure c ?_
  refine step_bind c ?_
  rw [k0_part17_eq_skeleton]
  iterate 8 refine round_recv m ρ K c ?_ ?_ ?_; decide; decide
  refine step_pure c ?_
  refine step_bind c ?_
  rw [k0_part18_eq_skeleton]
  iterate 7 refine round_recv m ρ K c ?_ ?_ ?_; decide; decide
  refine step_pure c ?_
  refine step_bind c ?_
  rw [k0_part19_eq_skeleton]
  iterate 8 refine round_recv m ρ K c ?_ ?_ ?_; decide; decide
  refine step_pure c ?_
  refine step_bind c ?_
  rw [k0_part20_eq_skeleton]
  iterate 1 refine round_recv m ρ K c ?_ ?_ ?_; decide; decide
  refine step_out m ρ K c Y ?_
  iterate 5 refine round_sent m ρ K c ?_ ?_ ?_; decide; decide
  refine step_pure c ?_
  refine step_bind c ?_
  rw [k0_part21_eq_skeleton]
  iterate 10 refine round_sent m ρ K c ?_ ?_ ?_; decide; decide
  refine step_pure c ?_
  refine step_bind c ?_
  rw [k0_part22_eq_skeleton]
  iterate 10 refine round_sent m ρ K c ?_ ?_ ?_; decide; decide
  refine step_pure c ?_
  iterate 6 refine round_sent m ρ K c ?_ ?_ ?_; decide; decide
  refine step_pure c ?_
  unfold bodyPost
  iintro ⟨-, H⟩
  iexact H

end Body

end Cert.Scan

end
-- ==== Proof.Ends.lean ====
/-
# What a device starts and ends with

At the start a device holds its position on every one of its cells, the tokens of the duties it pays, the credits of its
waits and its landing buffer; the rows of that buffer and the counters at distance 0 are set aside, and what remains is
the state the loops begin in. At the end the parts of row 0 are joined again, and the rows make up the buffer.
-/

module

public import proofs.«01_k».proof.Proof.Body

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Ends
variable (K : Dev nD × Cx → ℕ) (c : Dev nD) (Y : Buf (Elt F) ((c : Thread nD τ).loc cc0_stg1_0))

/-- The tokens of the barrier signals a device sends, and the credits of the arrivals it waits for. -/
def tokB : sProp 𝕄 := bigSep dists fun d => opt (dnOk c d) (dutyTok ER (barCell (dn c d)) 0 d)
def crR : sProp 𝕄 := bigSep dists fun d => opt (dnOk c d) (cred (tallyAt (recvCell c d) () N))

/-- The positions, the tokens, the credits: all a device holds at launch but memory. -/
def posAll : sProp 𝕄 :=
  iprop(atPos ER (barCell c) 0 ∅ 0 ∗ (bigSep Finset.univ fun d => atPos ER (sendCell c d) 0 ∅ 0)
    ∗ bigSep Finset.univ fun d => atPos ER (recvCell c d) 0 ∅ 0)
def toksAll : sProp 𝕄 := iprop(tokB c ∗ resT c)
def credAll : sProp 𝕄 := iprop(cred (tallyAt (barCell c) () (31 - c.val)) ∗ crR c)

theorem rows_at_start (f : Buf (Elt F) ((c : Thread nD τ).loc cc0_scratch0)) :
    (scrPts c fullShare f : sProp 𝕄) ⊢ iprop(rowAny c 0 ∗ bigSep dists fun d => rowAny c d) := by
  rw [scr_rows, ← bigSep_zero]
  refine BI.bigSep_mono fun d _ => show rowPts c d fullShare f ⊢ rowAny c d from ?_
  unfold rowAny
  iintro H
  iexists f
  iexact H

theorem enter {α : Type} {p : Prog (TpuEff nD τ sig (Elt F) Λ₀ .tc) α} {Q : α → sProp 𝕄}
    (h : iprop(know m ρ K ∗ bodyPre m ρ c Y) ⊢ wpc c p Q) :
    iprop(know m ρ K ∗ posAll c ∗ toksAll c ∗ credAll c ∗ (∃ f, scrPts c fullShare f) ∗ (∃ W, owes (c : Thread nD τ) (O₀ c) W)
      ∗ stageX c (xstg m ρ c) ∗ stageO c Y) ⊢ wpc c p Q := by
  have hs : (stA c 1 : sProp 𝕄) = iprop(((bigSep dists fun d => rowAny c d) ∗ tokB c) ∗ ∃ W, owes (c : Thread nD τ) (O₀ c) W) := by
    unfold stA
    rw [ph_start]
    exact congrArg (fun A => iprop(A ∗ ∃ W, owes (c : Thread nD τ) (O₀ c) W)) (bigSep_two dists _ _)
  have hr : (resR c : sProp 𝕄) = iprop((bigSep dists fun d => atPos ER (recvCell c d) 0 ∅ 0) ∗ crR c) := bigSep_two dists _ _
  unfold bodyPre at h
  rw [hs, hr] at h
  unfold posAll toksAll credAll
  rw [bigSep_zero, bigSep_zero]
  unfold know
  iintro ⟨⟨#Hrec, #Hlev⟩, ⟨Hb, ⟨Hs0, Hs⟩, Hr0, Hr⟩, ⟨HtB, HT⟩, ⟨Hcb, Hcr⟩, ⟨%f, Hf⟩, HO, Hx, Hy⟩
  ihave Hf := (rows_at_start c f) $$ Hf
  icases Hf with ⟨Hf0, Hf⟩
  imod (Rounds.cell_close ER (Rd m ρ) (Set.mem_univ (K (c, sx 0))) (fun h => h) (R := 0) (send_none m ρ c 0 fun h => absurd h.1 (by decide))) $$ [Hs0] with Hs0
  · isplitr; · iapply (inv_at m ρ K (c, sx 0)); iexact Hrec
    iexact Hs0
  imod (Rounds.cell_close ER (Rd m ρ) (Set.mem_univ (K (c, rx 0))) (fun h => h) (R := 0) (recv_none m ρ c 0 fun h => absurd h.1 (by decide))) $$ [Hr0] with Hr0
  · isplitr; · iapply (inv_at m ρ K (c, rx 0)); iexact Hrec
    iexact Hr0
  iapply h
  unfold know zero2 resS
  isplitr; · isplitr <;> iassumption
  isplitl [Hf HtB HO]
  · isplitl [Hf HtB]
    · isplitl [Hf] <;> iassumption
    iexact HO
  isplitl [Hb]; · iexact Hb
  isplitl [Hcb]; · iexact Hcb
  isplitl [Hf0]; · iexact Hf0
  isplitl [HT]; · iexact HT
  isplitl [Hr Hcr]; · isplitl [Hr] <;> iassumption
  isplitl [Hs]; · iexact Hs
  isplitl [Hs0 Hr0]; · isplitl [Hs0] <;> iassumption
  isplitl [Hx]; · iexact Hx
  iexact Hy

/-- The counters of the protocol at zero, and the landing buffer at some contents. -/
def done : sProp 𝕄 :=
  iprop((∃ f, scrPts c fullShare f) ∗ semVal (barCell c) 0 ∗ (bigSep Finset.univ fun d => semVal (sendCell c d) 0)
    ∗ bigSep Finset.univ fun d => semVal (recvCell c d) 0)

theorem rows_at_end (f₀ : Buf (Elt F) ((c : Thread nD τ).loc cc0_scratch0)) : (bigSep Finset.univ fun d => (rowAny c d : sProp 𝕄)) ⊢ iprop(∃ f, scrPts c fullShare f) := by
  haveI : Nonempty (Buf (Elt F) ((c : Thread nD τ).loc cc0_scratch0)) := ⟨f₀⟩
  refine ent_trans (bigSep_exists_pi Finset.univ fun d (f : Buf (Elt F) ((c : Thread nD τ).loc cc0_scratch0)) =>
    (rowPts c d fullShare f : sProp 𝕄)) ?_
  iintro ⟨%g, H⟩
  iexists (glue c g)
  iapply (Entails.of_eq (scr_glue c fullShare g))
  iexact H

theorem row0_at_end : (iprop(rowLeft m ρ c ∗ rowTok m ρ c 0 ∗ bigSep dists (rowTok m ρ c)) : sProp 𝕄) ⊢ rowAny c 0 := by
  have h : (iprop(rowTok m ρ c 0 ∗ bigSep dists (rowTok m ρ c)) : sProp 𝕄)
      = bigSep Finset.univ fun e : Fin 32 => rowPts c 0 (Transfers.shareTok fullShare 32 e) (fill (tot m ρ c)) :=
    (bigSep_zero (rowTok m ρ c)).symm
  rw [h]
  unfold rowLeft rowAny
  iintro H
  iexists (fill (tot m ρ c))
  iapply (row_parts c 0 (fill (tot m ρ c))).2
  iexact H

theorem leave : (bodyPost m ρ c : sProp 𝕄) ⊢ iprop(done c ∗ (∃ W, owes (c : Thread nD τ) 0 W) ∗ stageX c (xstg m ρ c)
    ∗ ∃ g, ⌜Got m ρ c g⌝ ∗ stageO c (k0_pay3 (posW c) (k0_pay2 (xstg m ρ c)) g)) := by
  have hH : (stH m ρ c 32 : sProp 𝕄) = iprop(((bigSep dists fun d => semVal (sendCell c d) 0) ∗ bigSep dists (rowTok m ρ c))
      ∗ ∃ W, owes (c : Thread nD τ) 0 W) := by
    unfold stH
    rw [ph_end]
    exact congrArg (fun A => iprop(A ∗ ∃ W, owes (c : Thread nD τ) 0 W)) (bigSep_two dists _ _)
  unfold bodyPost asideH zero2 done
  rw [hH, bigSep_zero (fun d => semVal (sendCell c d) 0), bigSep_zero (fun d => semVal (recvCell c d) 0)]
  iintro ⟨⟨⟨HS, HT⟩, HO⟩, HR, Hrows, ⟨Hl, H0⟩, Hb, ⟨HS0, HR0⟩, Hx, Hy⟩
  isplitl [HS HT HR Hrows Hl H0 Hb HS0 HR0]
  · isplitl [HT Hrows Hl H0]
    · iapply (rows_at_end c (fill (tot m ρ c)))
      iapply (Entails.of_eq (bigSep_zero fun d => (rowAny c d : sProp 𝕄)).symm)
      isplitl [HT Hl H0]
      · iapply (row0_at_end m ρ c)
        isplitl [Hl]; · iexact Hl
        isplitl [H0] <;> iassumption
      iexact Hrows
    isplitl [Hb]; · iexact Hb
    isplitl [HS HS0]
    · isplitl [HS0] <;> iassumption
    isplitl [HR0] <;> iassumption
  isplitl [HO]; · iexact HO
  isplitl [Hx]; · iexact Hx
  iexact Hy

end Ends

end Cert.Scan

end
-- ==== Proof.Deal.lean ====
/-
# The tokens dealt out

Every token is minted at the cell it pays into. A family of resources, one for each place of a cell, is dealt to the
devices that use it by `deal`: the user at `j` takes the one at `f j`, no two users taking the same.
-/

module

public import proofs.«01_k».proof.Proof.Ends

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Deal

omit [FloatOps F] in
theorem deal {I J : Type} [Fintype I] [DecidableEq I] [Fintype J] [DecidableEq J] (X : I → sProp 𝕄) (p : J → Prop) [DecidablePred p]
    (f : J → I) (hf : ∀ i j, p i → p j → f i = f j → i = j) :
    (bigSep Finset.univ X : sProp 𝕄) ⊢ bigSep Finset.univ fun j => opt (p j) (X (f j)) := by
  let e : {j // p j} ↪ I := ⟨fun j => f j.1, fun i j h => Subtype.ext (hf _ _ i.2 j.2 h)⟩
  have h : (bigSep (Finset.univ.map e) X : sProp 𝕄) = bigSep (Finset.univ.filter p) fun j => X (f j) := by
    rw [bigSep_map, ← Finset.subtype_univ, ← Finset.subtype_map p, bigSep_map]
    rfl
  have h' : (bigSep (Finset.univ.filter p) fun j => X (f j)) = (bigSep Finset.univ fun j => opt (p j) (X (f j)) : sProp 𝕄) := BI.bigSep_filter _ _ _
  rw [← h', ← h]
  exact BI.bigSep_subset (Finset.subset_univ _)

omit [FloatOps F] in
/-- The same for a family over devices and distances, each distance by itself. -/
theorem deal_dist (X : Dev nD → Fin 32 → sProp 𝕄) (p : Dev nD → Fin 32 → Prop) [∀ c d, Decidable (p c d)] (f : Dev nD → Fin 32 → Dev nD)
    (hf : ∀ c c' d, p c d → p c' d → f c d = f c' d → c = c') :
    (bigSep Finset.univ fun c => bigSep Finset.univ fun d => X c d)
      ⊢ (bigSep Finset.univ fun c => bigSep dists fun d => opt (p c d) (X (f c d) d) : sProp 𝕄) := by
  have h := deal (fun cd : Dev nD × Fin 32 => X cd.1 cd.2) (fun cd : Dev nD × Fin 32 => p cd.1 cd.2) (fun cd => (f cd.1 cd.2, cd.2))
    fun i j hi hj hij => by
      obtain ⟨h1, h2⟩ := Prod.ext_iff.mp hij
      dsimp only at h1 h2
      rw [← h2] at h1 hj
      exact Prod.ext (hf _ _ _ hi hj h1) h2
  rw [bigSep_univ_prod, bigSep_univ_prod] at h
  exact ent_trans h (BI.bigSep_mono fun c _ => BI.bigSep_subset (Finset.erase_subset _ _))

theorem dn_inj {c c' : Dev nD} {d : Fin 32} (h : dnOk c d) (h' : dnOk c' d) (he : dn c d = dn c' d) : c = c' := by
  rw [← up_dn h, he, up_dn h']
theorem up_inj {c c' : Dev nD} {d : Fin 32} (h : upOk c d) (h' : upOk c' d) (he : up c d = up c' d) : c = c' := by
  rw [← dn_up h, he, dn_up h']

/-! ## The cells -/

theorem csem_injective : Function.Injective csem := by
  rintro (u | d | d) (u' | d' | d') h
  · rfl
  · exact absurd h (by simp)
  · exact absurd h (by simp)
  · exact absurd h (by simp)
  · have := congrArg Fin.val (SemLoc.dma.inj h)
    exact congrArg sx (Fin.ext (by simpa using this))
  · have := congrArg Fin.val (SemLoc.dma.inj h)
    have := d.isLt
    simp at *
    omega
  · exact absurd h (by simp)
  · have := congrArg Fin.val (SemLoc.dma.inj h)
    have := d'.isLt
    simp at *
    omega
  · have := congrArg Fin.val (SemLoc.dma.inj h)
    exact congrArg rx (Fin.ext (by simpa using this))

theorem kcell_injective : Function.Injective (kcell : Dev nD × Cx → GSem nD τ sig) := fun x y h =>
  Prod.ext (congrArg (fun g : GSem nD τ sig => g.1.1) h) (csem_injective (congrArg Prod.snd h))
def meshCells : Finset (GSem nD τ sig) := Finset.univ.map ⟨kcell, kcell_injective⟩

/-- The places tokens are minted at: on a device's barrier cell one for each distance, on each of its send cells and
    receive cells one. -/
abbrev Tx : Type := Fin 32 ⊕ (Fin 32 ⊕ Fin 32)
def tokAt (c : Dev nD) : Tx → GSem nD τ sig × ℕ × Fin 32
  | .inl d => (barCell c, 0, d)
  | .inr (.inl d) => (sendCell c d, 0, 0)
  | .inr (.inr d) => (recvCell c d, 0, 0)
def cellAt : Tx → Cx
  | .inl d => bx
  | .inr x => .inr x
theorem tokAt_cell (c : Dev nD) (x : Tx) : (tokAt c x).1 = kcell (c, cellAt x) := by rcases x with d | d | d <;> rfl
theorem tokAt_injective : Function.Injective (fun cx : Dev nD × Tx => tokAt cx.1 cx.2) := by
  rintro ⟨c, x⟩ ⟨c', x'⟩ h
  have h1 : kcell (c, cellAt x) = kcell (c', cellAt x') := by
    rw [← tokAt_cell, ← tokAt_cell]; exact congrArg Prod.fst h
  have h2 := kcell_injective h1
  have hc : c = c' := congrArg Prod.fst h2
  subst hc
  have hx : cellAt x = cellAt x' := congrArg Prod.snd h2
  rcases x with d | x <;> rcases x' with d' | x'
  · have hd : d = d' := congrArg (fun g : GSem nD τ sig × ℕ × Fin 32 => g.2.2) h
    rw [hd]
  · exact absurd hx (by simp [cellAt])
  · exact absurd hx (by simp [cellAt])
  · rw [Sum.inr.inj hx]
def meshToks : Finset (GSem nD τ sig × ℕ × Fin 32) := Finset.univ.map ⟨_, tokAt_injective⟩

omit [FloatOps F] in
theorem cx_parts (Φ : Cx → sProp 𝕄) : bigSep Finset.univ Φ
    = iprop(Φ bx ∗ (bigSep Finset.univ fun d => Φ (sx d)) ∗ bigSep Finset.univ fun d => Φ (rx d)) := by
  have h := BI.bigSep_univ_sum Φ
  rw [BI.bigSep_univ_sum (fun x : Fin 32 ⊕ Fin 32 => Φ (.inr x)), BI.bigSep_univ_of_subsingleton ()] at h
  exact h
omit [FloatOps F] in
theorem tx_parts (Φ : Tx → sProp 𝕄) : bigSep Finset.univ Φ
    = iprop((bigSep Finset.univ fun d => Φ (.inl d)) ∗ (bigSep Finset.univ fun d => Φ (.inr (.inl d))) ∗ bigSep Finset.univ fun d => Φ (.inr (.inr d))) := by
  have h := BI.bigSep_univ_sum Φ
  rw [BI.bigSep_univ_sum (fun x : Fin 32 ⊕ Fin 32 => Φ (.inr x))] at h
  exact h

/-- The tokens minted at device `c`'s cells. -/
def minted (c : Dev nD) : sProp 𝕄 :=
  iprop((bigSep Finset.univ fun d => dutyTok ER (barCell c) 0 d) ∗ (bigSep Finset.univ fun d => dutyTok ER (sendCell c d) 0 0)
    ∗ bigSep Finset.univ fun d => dutyTok ER (recvCell c d) 0 0)

theorem resT_eq (c : Dev nD) : (resT c : sProp 𝕄)
    = iprop((bigSep dists fun d => opt (upOk c d) (dutyTok ER (sendCell c d) 0 0)) ∗ bigSep dists fun d => opt (upOk c d) (dutyTok ER (recvCell (up c d) d) 0 0)) := by
  unfold resT
  rw [← bigSep_two]
  exact BI.bigSep_congr fun d _ => opt_two _ _ _

/-- The tokens where they were minted become the tokens each device pays with. -/
theorem toks_around : (bigSep Finset.univ fun c : Dev nD => (minted c : sProp 𝕄)) ⊢ bigSep Finset.univ fun c : Dev nD => toksAll c := by
  have h : (bigSep Finset.univ fun c : Dev nD => (toksAll c : sProp 𝕄)) = iprop((bigSep Finset.univ fun c : Dev nD => tokB c)
      ∗ (bigSep Finset.univ fun c : Dev nD => bigSep dists fun d => opt (upOk c d) (dutyTok ER (sendCell c d) 0 0))
      ∗ bigSep Finset.univ fun c : Dev nD => bigSep dists fun d => opt (upOk c d) (dutyTok ER (recvCell (up c d) d) 0 0)) := by
    rw [← bigSep_two, ← bigSep_two]
    exact BI.bigSep_congr fun c _ => by unfold toksAll; rw [resT_eq]
  have h' : (bigSep Finset.univ fun c : Dev nD => (minted c : sProp 𝕄))
      = iprop((bigSep Finset.univ fun c : Dev nD => bigSep Finset.univ fun d => dutyTok ER (barCell c) 0 d)
      ∗ (bigSep Finset.univ fun c : Dev nD => bigSep Finset.univ fun d => dutyTok ER (sendCell c d) 0 0)
      ∗ bigSep Finset.univ fun c : Dev nD => bigSep Finset.univ fun d => dutyTok ER (recvCell c d) 0 0) := by
    rw [← bigSep_two, ← bigSep_two]
    exact BI.bigSep_congr fun c _ => rfl
  have h₁ := deal_dist (F := F) (fun c d => dutyTok ER (barCell c) 0 d) dnOk dn fun c c' d => dn_inj
  have h₂ := deal_dist (F := F) (fun c d => dutyTok ER (sendCell c d) 0 0) upOk (fun c _ => c) fun c c' d _ _ h => h
  have h₃ := deal_dist (F := F) (fun c d => dutyTok ER (recvCell c d) 0 0) upOk up fun c c' d => up_inj
  rw [h, h']
  unfold tokB
  iintro ⟨H1, H2, H3⟩
  isplitl [H1]; · iapply h₁; iexact H1
  isplitl [H2]; · iapply h₂; iexact H2
  iapply h₃; iexact H3

end Deal

end Cert.Scan

end
-- ==== Proof.Credit.lean ====
/-
# The credits dealt out at launch

A cell is dealt what all the devices together owe it: the barrier cell of `c` one unit from each later device, the
receive cell at distance `d` one row from the device at that distance before, if there is one.
-/

module

public import proofs.«01_k».proof.Proof.Deal

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Credit
variable (c : Dev nD)

theorem bar_inj {a b : Dev nD} (h : barCell a = barCell b) : a = b := congrArg (fun g : GSem nD τ sig => g.1.1) h
theorem recv_inj {a b : Dev nD} {d e : Fin 32} (h : recvCell a d = recvCell b e) : a = b ∧ d = e := by
  refine ⟨congrArg (fun g : GSem nD τ sig => g.1.1) h, Fin.ext ?_⟩
  have h1 : (SemLoc.dma (recvS d) : SemLoc sig) = .dma (recvS e) := congrArg Prod.snd h
  have h2 : 34 + d.val = 34 + e.val := congrArg Fin.val (SemLoc.dma.inj h1)
  omega
theorem bar_ne_recv (a b : Dev nD) (d : Fin 32) : barCell a ≠ recvCell b d := fun h => by
  have h1 : (SemLoc.reg barS : SemLoc sig) = .dma (recvS d) := congrArg Prod.snd h
  exact absurd h1 (by simp)

theorem sumFrom_apply (p : Fin 32 → Prop) [DecidablePred p] (f : Fin 32 → Tal) (g : GSem nD τ sig) :
    sumFrom p f 1 g () = ∑ d : Fin 32, if 1 ≤ d.val ∧ p d then f d g () else 0 := by
  unfold sumFrom
  rw [Finset.sum_apply, Finsupp.finset_sum_apply]
  refine Finset.sum_congr rfl fun d _ => ?_
  split <;> rfl

theorem owed_bar (a : Dev nD) : O₀ a (barCell c) () = ∑ d : Fin 32, if dnOk a d ∧ dn a d = c then 1 else 0 := by
  unfold O₀ owA owR
  rw [Pi.add_apply, Finsupp.add_apply, sumFrom_apply, sumFrom_apply, Finset.sum_eq_zero (f := fun d : Fin 32 => if 1 ≤ d.val ∧ upOk a d then _ else 0), Nat.add_zero]
  · refine Finset.sum_congr rfl fun d _ => ?_
    rw [tallyAt_apply]
    by_cases h : dnOk a d
    · rw [if_pos ⟨h.1, h⟩]
      by_cases h' : dn a d = c
      · rw [if_pos ⟨by rw [h'], rfl⟩, if_pos ⟨h, h'⟩]
      · rw [if_neg fun h'' => h' (bar_inj h''.1).symm, if_neg fun h'' => h' h''.2]
    · rw [if_neg fun h' => h h'.2, if_neg fun h' => h h'.1]
  · intro d _
    split
    · rw [tallyAt_apply, if_neg fun h => bar_ne_recv _ _ _ h.1]
    · rfl

theorem owed_recv (d : Fin 32) (a : Dev nD) :
    O₀ a (recvCell c d) () = ∑ e : Fin 32, if dnOk c d ∧ a = dn c d ∧ e = d then N else 0 := by
  unfold O₀ owA owR
  rw [Pi.add_apply, Finsupp.add_apply, sumFrom_apply, sumFrom_apply, Finset.sum_eq_zero (f := fun e : Fin 32 => if 1 ≤ e.val ∧ dnOk a e then _ else 0), Nat.zero_add]
  · refine Finset.sum_congr rfl fun e _ => ?_
    rw [tallyAt_apply]
    by_cases h : dnOk c d ∧ a = dn c d ∧ e = d
    · obtain ⟨h, rfl, rfl⟩ := h
      rw [if_pos ⟨h.1, upOk_dn h⟩, if_pos ⟨by rw [up_dn h], rfl⟩, if_pos ⟨h, rfl, rfl⟩]
    · rw [if_neg h]
      split
      · next h' =>
        refine if_neg fun h'' => h ?_
        obtain ⟨h1, rfl⟩ := recv_inj h''.1
        subst h1
        exact ⟨dnOk_up h'.2, (dn_up h'.2).symm, rfl⟩
      · rfl
  · intro e _
    split
    · rw [tallyAt_apply, if_neg fun h => bar_ne_recv _ _ _ h.1.symm]
    · rfl

theorem credit_bar : tallyOn (barCell c) (launchCredit (Pipeline.owing O₀) 0 (barCell c)) = (tallyAt (barCell c) () (31 - c.val) : Tal) := by
  unfold tallyAt; refine congrArg _ (Finsupp.ext fun u => ?_); cases u
  rw [Pipeline.launchCredit_owing, Finsupp.single_eq_same, Finset.sum_congr rfl fun a _ => owed_bar c a, Finset.sum_comm, ← card_ups,
    Finset.card_eq_sum_ones, ups, Finset.sum_filter]
  refine Finset.sum_congr rfl fun d _ => ?_
  by_cases h : upOk c d
  · rw [if_pos h, Finset.sum_eq_single (up c d), if_pos ⟨dnOk_up h, dn_up h⟩]
    · intro a _ ha
      exact if_neg fun h' => ha (by rw [← h'.2, up_dn h'.1])
    · exact fun h' => absurd (Finset.mem_univ _) h'
  · rw [if_neg h]
    exact Finset.sum_eq_zero fun a _ => if_neg fun h' => h (by rw [← h'.2]; exact upOk_dn h'.1)

theorem credit_recv (d : Fin 32) :
    tallyOn (recvCell c d) (launchCredit (Pipeline.owing O₀) 0 (recvCell c d)) = (tallyAt (recvCell c d) () (if dnOk c d then N else 0) : Tal) := by
  unfold tallyAt; refine congrArg _ (Finsupp.ext fun u => ?_); cases u
  rw [Pipeline.launchCredit_owing, Finsupp.single_eq_same, Finset.sum_congr rfl fun a _ => owed_recv c d a]
  by_cases h : dnOk c d
  · rw [if_pos h, Finset.sum_eq_single (dn c d), Finset.sum_eq_single d, if_pos ⟨h, rfl, rfl⟩]
    · exact fun e _ he => if_neg fun h' => he h'.2.2
    · exact fun h' => absurd (Finset.mem_univ _) h'
    · exact fun a _ ha => Finset.sum_eq_zero fun e _ => if_neg fun h' => ha h'.2.1
    · exact fun h' => absurd (Finset.mem_univ _) h'
  · rw [if_neg h]
    exact Finset.sum_eq_zero fun a _ => Finset.sum_eq_zero fun e _ => if_neg fun h' => h h'.1

theorem creds : (Pipeline.launchCred O₀ c : sProp 𝕄) ⊢ credAll c := by
  have h := deal (F := F) (fun sm : SemLoc sig => cred (tallyOn ((c : Thread nD τ), sm) (launchCredit (Pipeline.owing O₀) 0 ((c : Thread nD τ), sm))))
    (fun _ : Cx => True) csem fun i j _ _ hij => csem_injective hij
  refine ent_trans h ?_
  rw [cx_parts]
  unfold credAll crR
  rw [opt_pos trivial, show csem bx = .reg barS from rfl, credit_bar]
  have hr : (bigSep Finset.univ fun d => opt True (cred (tallyOn (recvCell c d) (launchCredit (Pipeline.owing O₀) 0 (recvCell c d)))) : sProp 𝕄)
      ⊢ bigSep dists fun d => opt (dnOk c d) (cred (tallyAt (recvCell c d) () N)) := by
    refine ent_trans (BI.bigSep_subset (Finset.erase_subset 0 _)) (BI.bigSep_mono fun d _ => ?_)
    rw [opt_pos trivial, credit_recv]
    by_cases h : dnOk c d
    · rw [opt_pos h, if_pos h]
      exact BI.Entails.refl _
    · rw [opt_neg h]
      show (_ : sProp 𝕄) ⊢ iprop(emp)
      iintro -
      iempintro
  iintro ⟨Hb, -, Hr⟩
  isplitl [Hb]; · iexact Hb
  iapply hr
  iexact Hr

end Credit

end Cert.Scan

end
-- ==== Proof.Data.lean ====
/-
# The body as the launch asks for it

What holds before and after the one point of the grid, and that the body leads from one to the other. Of the result it is
said only that it is the last sum of a landing buffer whose written rows hold the senders' sums: the other rows hold
anything.
-/

module

public import proofs.«01_k».proof.Proof.Ends
public import proofs.«01_k».proof.Proof.Gen.KernelIdeal.Points

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Data
variable (c : Dev nD)

/-- What device `c` starts with but for its landing buffer. -/
def start : sProp 𝕄 := iprop((∃ K, records m ρ K) ∗ levAts L lv ∗ posAll c ∗ toksAll c ∗ credAll c)

def Φ₀ : sProp 𝕄 := iprop(start m ρ c ∗ ∃ f, scrPts c fullShare f)

/-- The result block of device `c`. -/
def IsOut (X : Buf (Elt F) ((c : Thread nD τ).loc cc0_stg1_0)) : Prop :=
  ∃ g, Got m ρ c g ∧ X = k0_pay3 (posW c) (k0_pay2 (xstg m ρ c)) g

def dat : Pipeline.RDat τ (Elt F) Unit ℕ UU ℕ cfg0 c where
  A w := (s₀ m ρ).mem ((cfg0.win w).arr.view.loc (c : Thread nD τ))
  after w _ Y X := match w with
    | ⟨0, _⟩ => X = Y
    | ⟨1, _⟩ => IsOut m ρ c X
  Φ t := match t with
    | ⟨0, _⟩ => Φ₀ m ρ c
    | ⟨_ + 1, _⟩ => done c
  q _ := fullShare
  owed t := match t with
    | ⟨0, _⟩ => O₀ c
    | ⟨_ + 1, _⟩ => 0

abbrev dats (_ : Fin 1) (c : Dev nD) : Pipeline.RDat τ (Elt F) Unit ℕ UU ℕ cfg0 c := dat m ρ c

theorem owns_stage (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

theorem found (t : Fin cfg0.N) (X : (cfg0.win (0 : Fin 2)).block.Idx → (Elt F) (cfg0.win (0 : Fin 2)).elt)
    (h : (dat m ρ c).Finds (0 : Fin 2) t X) : X = xstg m ρ c := by
  rw [fin_N0 t] at h
  obtain ⟨d, h⟩ := ((dat m ρ c).finds_of_fetch (fetch0_0 _) X).mp h
  exact h.trans rfl

/-- The buffer `b` holding `X`. -/
abbrev holds (b : Ref sig .tc) (X : b.ty.Contents (Elt F)) : sProp 𝕄 :=
  iprop(∃ f : Buf (Elt F) ((c : Thread nD τ).loc b), ⌜f = X⌝ ∗ (((c : Thread nD τ).loc b) ↦{fullShare} f))

def pointPre (X : (cc0_stg0_0 : Ref sig .tc).ty.Contents (Elt F)) (Y : (cc0_stg1_0 : Ref sig .tc).ty.Contents (Elt F)) : sProp 𝕄 :=
  iprop(Φ₀ m ρ c ∗ (dat m ρ c).owesAt () t0_0.castSucc ∗ holds c cc0_stg0_0 X ∗ holds c cc0_stg1_0 Y)

def pointPost (X : (cc0_stg0_0 : Ref sig .tc).ty.Contents (Elt F)) : sProp 𝕄 :=
  iprop(done c ∗ (dat m ρ c).owesAt () t0_0.succ
    ∗ (∃ X', ⌜X' = X⌝ ∗ holds c cc0_stg0_0 X') ∗ (∃ Y', ⌜IsOut m ρ c Y'⌝ ∗ holds c cc0_stg1_0 Y'))

theorem point (Y : (cc0_stg1_0 : Ref sig .tc).ty.Contents (Elt F)) : pointPre m ρ c (xstg m ρ c) Y
    ⊢ wpc c (cc0_body (F := F) xM (Memref.isWhole_whole _) oM (Memref.isWhole_whole _) cM (Memref.isWhole_whole _)
        cc0_scratch1 cc0_scratch2) (fun _ => pointPost m ρ c (xstg m ρ c)) := by
  unfold pointPre Φ₀ start Pipeline.RDat.owesAt Pipeline.owesWithin
  rw [show (dat m ρ c).owed t0_0.castSucc = O₀ c from rfl]
  iintro ⟨⟨⟨⟨%K, Hrec⟩, Hlev, Hpos, Htok, Hcred⟩, Hscr⟩, ⟨%W, -, HO⟩, ⟨%f, %hf, Hx⟩, ⟨%f', %hf', Hy⟩⟩
  subst hf; subst hf'
  have h : iprop(know m ρ K ∗ bodyPre m ρ c f') ⊢ wpc c (cc0_body (F := F) xM (Memref.isWhole_whole _) oM (Memref.isWhole_whole _) cM (Memref.isWhole_whole _)
        cc0_scratch1 cc0_scratch2) (fun _ => pointPost m ρ c (xstg m ρ c)) := by
    refine ent_trans (body m ρ K c f') (wp_mono _ _ _ fun _ => ent_trans (leave m ρ c) ?_)
    unfold pointPost Pipeline.RDat.owesAt Pipeline.owesWithin stageX stageO
    rw [show (dat m ρ c).owed t0_0.succ = 0 from rfl]
    iintro ⟨Hd, ⟨%W', HO⟩, Hx, ⟨%g, %hg, Hy⟩⟩
    isplitl [Hd]; · iexact Hd
    isplitl [HO]
    · iexists W'
      isplitr; · ipureintro; exact fun _ _ => Or.inl trivial
      iexact HO
    isplitl [Hx]
    · iexists (xstg m ρ c)
      isplitr; · ipureintro; rfl
      iexists _
      isplitr; · (ipureintro; rfl)
      iexact Hx
    iexists (k0_pay3 (posW c) (k0_pay2 (xstg m ρ c)) g)
    isplitr; · ipureintro; exact ⟨g, hg, rfl⟩
    iexists _
    isplitr; · (ipureintro; rfl)
    iexact Hy
  iapply (enter m ρ K c f' h)
  unfold know stageX stageO
  isplitl [Hrec Hlev]; · isplitl [Hrec] <;> iassumption
  isplitl [Hpos]; · iexact Hpos
  isplitl [Htok]; · iexact Htok
  isplitl [Hcred]; · iexact Hcred
  isplitl [Hscr]; · iexact Hscr
  isplitl [HO]; · iexists W; iexact HO
  isplitl [Hx] <;> iassumption

set_option maxRecDepth 4000 in
theorem body_obligation : (dat m ρ c).BodyObligation (defs₀ (F := F)) 𝒱₀ () Set.univ := fun t Y hY => by
  have hX := found m ρ c t (Y (0 : Fin 2)) (hY (0 : Fin 2))
  rw [fin_N0 t] at *
  rw [bigSep_W0, bigSep_W0]
  rw [hX]
  simp only [owns_stage]
  exact point m ρ c (Y (1 : Fin 2))

end Data

end Cert.Scan

end
-- ==== Proof.Alloc.lean ====
/-
# The cells made at launch

Every device's barrier, send and receive counters become the cells of the schedule, all devices' at once, and every
device keeps its own places on its cells and the tokens it will pay with.
-/

module

public import proofs.«01_k».proof.Proof.Credit
public import proofs.«01_k».proof.Proof.Data

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Alloc

theorem ownSemFacts : Pipeline.OwnSemFacts cfg0.spec osem := by decide

def u₀ : UU := (initOf (Pipeline.cells cfgs cellOf_inj) (Pipeline.launchToks cfgs cellOf_inj), initOf meshCells meshToks)

/-- A device's cells before they are opened: the state of each, its place on each, and the tokens minted there. -/
def raw (c : Dev nD) : sProp 𝕄 :=
  iprop((bigSep Finset.univ fun k : Cx => roundState ER (Rd m ρ) (kcell (c, k)) 0)
    ∗ (bigSep Finset.univ fun k : Cx => atPos ER (kcell (c, k)) 0 ∅ 0) ∗ (bigSep Finset.univ fun k : Cx => reached ER (kcell (c, k)) 0) ∗ minted c)

/-- What a device has of the cells when all are open. -/
def opened (c : Dev nD) : sProp 𝕄 := iprop((∃ K, records m ρ K) ∗ posAll c ∗ toksAll c)

theorem over_cells (Φ : GSem nD τ sig → sProp 𝕄) :
    bigSep meshCells Φ = bigSep Finset.univ fun c : Dev nD => bigSep Finset.univ fun k : Cx => Φ (kcell (c, k)) := by
  unfold meshCells
  rw [bigSep_map, bigSep_univ_prod]
  rfl

theorem over_toks : bigSep meshToks (fun x => (dutyTok ER x.1 x.2.1 x.2.2 : sProp 𝕄)) = bigSep Finset.univ fun c : Dev nD => minted c := by
  unfold meshToks
  rw [bigSep_map, bigSep_univ_prod]
  refine BI.bigSep_congr fun c _ => ?_
  rw [tx_parts]
  rfl

theorem raw_all : (bigSep Finset.univ (raw m ρ) : sProp 𝕄) = iprop((bigSep meshCells fun g => roundState ER (Rd m ρ) g 0)
    ∗ (bigSep meshCells fun g => atPos ER g 0 ∅ 0) ∗ (bigSep meshCells fun g => reached ER g 0)
    ∗ bigSep meshToks fun x => dutyTok ER x.1 x.2.1 x.2.2) := by
  rw [over_cells, over_cells, over_cells, over_toks, ← bigSep_two, ← bigSep_two, ← bigSep_two]
  exact BI.bigSep_congr fun c _ => rfl

theorem mint : BI.own (ER (initOf meshCells meshToks)) ⊢ (|==> bigSep Finset.univ (raw m ρ) : sProp 𝕄) := by
  rw [raw_all]
  iintro HX
  imod (Rounds.fund ER (Rd m ρ) meshCells meshToks) $$ HX with ⟨Hst, Hr, Hat, Htok⟩
  imodintro
  isplitl [Hst]; · iexact Hst
  isplitl [Hat]; · iexact Hat
  isplitl [Hr]; · iexact Hr
  iexact Htok

variable (c : Dev nD)

/-- The counters of device `c` that are the kernel's own: one to send and one to receive at each distance. -/
abbrev own0 : sProp 𝕄 := Pipeline.ownSems0 (Ix := Unit) (Name := ℕ) (U := UU) (Lvl := ℕ) (Val := Elt F) (τ := τ) osem c

theorem own0_eq : (own0 c : sProp 𝕄) = iprop((bigSep Finset.univ fun d => semVal (sendCell c d) 0) ∗ bigSep Finset.univ fun d => semVal (recvCell c d) 0) := by
  unfold own0 Pipeline.ownSems0
  have h := BI.bigSep_univ_sum (M := 𝕄) (fun k : Fin 32 ⊕ Fin 32 => semVal (((c : Thread nD τ), osem k) : GSem nD τ sig) 0)
  exact h
theorem unscoped0_eq : (unscopedSems0 c : sProp 𝕄) = semVal (barCell c) 0 := by
  unfold unscopedSems0; rw [bigSep_eq_bigSepL_of_eq [SemLoc.reg barS] (by decide) (by decide)]; rfl

theorem counters : iprop(own0 c ∗ unscopedSems0 c) ⊢ (bigSep Finset.univ fun k : Cx => semVal (kcell (c, k)) 0 : sProp 𝕄) := by
  rw [own0_eq, unscoped0_eq, cx_parts]
  iintro ⟨⟨HS, HR⟩, HB⟩
  isplitl [HB]; · iexact HB
  isplitl [HS]; · iexact HS
  iexact HR

/-- A device's cells opened, each under some name. -/
def named : sProp 𝕄 :=
  iprop((bigSep Finset.univ fun k : Cx => iprop(∃ κ : ℕ, cellInv ER (Rd m ρ) κ (kcell (c, k))))
    ∗ (bigSep Finset.univ fun k : Cx => atPos ER (kcell (c, k)) 0 ∅ 0) ∗ (bigSep Finset.univ fun k : Cx => reached ER (kcell (c, k)) 0) ∗ minted c)

theorem open_cells : iprop((bigSep Finset.univ fun k : Cx => semVal (kcell (c, k)) 0) ∗ bigSep Finset.univ fun k : Cx => roundState ER (Rd m ρ) (kcell (c, k)) 0)
    ⊢ (|={Set.univ}=> bigSep Finset.univ fun k : Cx => iprop(∃ κ : ℕ, cellInv ER (Rd m ρ) κ (kcell (c, k))) : sProp 𝕄) := by
  rw [← bigSep_two]
  exact ent_trans (BI.bigSep_mono fun k _ => ent_trans (Rounds.body_intro ER (Rd m ρ) (kcell (c, k))) inv_alloc) (BI.bigSep_fupd _ _)

theorem open_one : iprop(own0 c ∗ unscopedSems0 c ∗ raw m ρ c) ⊢ (|={Set.univ}=> named m ρ c : sProp 𝕄) := by
  unfold raw named
  iintro ⟨Hos, Hus, Hst, Hat, Hre, Htok⟩
  ihave Hv := (counters (F := F) c) $$ [Hos Hus]
  · isplitl [Hos] <;> iassumption
  imod (open_cells m ρ c) $$ [Hv Hst] with Hinv
  · isplitl [Hv] <;> iassumption
  imodintro
  isplitl [Hinv]; · iexact Hinv
  isplitl [Hat]; · iexact Hat
  isplitl [Hre] <;> iassumption

theorem named_all : (bigSep Finset.univ (named m ρ) : sProp 𝕄)
    = iprop((bigSep Finset.univ fun ck : Dev nD × Cx => iprop(∃ κ : ℕ, cellInv ER (Rd m ρ) κ (kcell ck)))
      ∗ (bigSep Finset.univ fun c : Dev nD => posAll c) ∗ (bigSep Finset.univ fun ck : Dev nD × Cx => reached ER (kcell ck) 0)
      ∗ bigSep Finset.univ fun c : Dev nD => minted c) := by
  rw [bigSep_univ_prod, bigSep_univ_prod, ← bigSep_two, ← bigSep_two, ← bigSep_two]
  refine BI.bigSep_congr fun c _ => ?_
  unfold named
  rw [cx_parts fun k => (atPos ER (kcell (c, k)) 0 ∅ 0 : sProp 𝕄)]
  rfl

theorem share_names (K : Dev nD × Cx → ℕ) : iprop(records m ρ K ∗ bigSep Finset.univ fun c : Dev nD => iprop(posAll c ∗ toksAll c))
    ⊢ (bigSep Finset.univ (opened m ρ) : sProp 𝕄) := by
  refine ent_trans (sep_mono_left (BI.bigSep_of_persistent (Finset.univ : Finset (Dev nD)) (records m ρ K))) ?_
  rw [← bigSep_two]
  refine BI.bigSep_mono fun c _ => show iprop(records m ρ K ∗ posAll c ∗ toksAll c) ⊢ opened m ρ c from ?_
  unfold opened
  iintro ⟨H, H'⟩
  isplitl [H]; · iexists K; iexact H
  iexact H'

theorem share_all : (bigSep Finset.univ (named m ρ) : sProp 𝕄) ⊢ bigSep Finset.univ (opened m ρ) := by
  rw [named_all]
  iintro ⟨HI, Hat, HR, Htok⟩
  ihave HK := (BI.bigSep_exists_pi Finset.univ (fun (ck : Dev nD × Cx) (κ : ℕ) => (cellInv ER (Rd m ρ) κ (kcell ck) : sProp 𝕄))) $$ HI
  icases HK with ⟨%K, HI⟩
  ihave Htk := (toks_around (F := F)) $$ Htok
  iapply (share_names m ρ K)
  isplitl [HI HR]
  · unfold records
    isplitl [HI] <;> iassumption
  rw [bigSep_two]
  isplitl [Hat] <;> iassumption

theorem open_all : (bigSep Finset.univ fun c => iprop(own0 c ∗ unscopedSems0 c ∗ raw m ρ c) : sProp 𝕄)
    ⊢ |={Set.univ}=> bigSep Finset.univ (opened m ρ) :=
  ent_trans (ent_trans (BI.bigSep_mono fun c _ => open_one m ρ c) (BI.bigSep_fupd _ _)) (BI.fupd_mono (share_all m ρ))

end Alloc

end Cert.Scan

end
-- ==== Proof.Run.lean ====
/-
# The run of the kernel

From any memory with every counter at zero the 32 devices finish, whatever order they run in. Afterwards each device's
result array holds the block computed from its own and the earlier devices' arrays, its input is what it was and every
counter is zero.
-/

module

public import proofs.«01_k».proof.Proof.Alloc
public import Idealize.ShloMosaic.Lib.Pipeline.ArrRel
public import Idealize.ShloMosaic.Lib.Pipeline.CollectiveSegs

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Run

theorem share_full (c : Dev nD) (w : Fin cfg0.W) : (dats m ρ 0 c).share w = fullShare := by unfold Pipeline.RDat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ opened m ρ c)
      ⊢ |={Set.univ}=> iprop(start m ρ c ∗ emp) := by
  unfold start opened
  iintro ⟨-, Hlev, Hcr, -, HK, Hpos, Htok⟩
  ihave Hc := (creds (F := F) c) $$ Hcr
  imodintro
  isplitl
  · isplitl [HK]; · iexact HK
    isplitl [Hlev]; · iexact Hlev
    isplitl [Hpos]; · iexact Hpos
    isplitl [Htok] <;> iassumption
  · iempintro

theorem scr_whole (c : Dev nD) (f : Buf (Elt F) ((c : Thread nD τ).loc cc0_scratch0)) :
    (scrPts c fullShare f : sProp 𝕄) = iprop((c : Thread nD τ).loc cc0_scratch0 ↦{fullShare} f) := by
  unfold scrPts
  rfl

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  icases Hr with ⟨%f, Hr⟩
  iexists f
  rw [scr_whole]
  iexact Hr

theorem phi_out (c : Dev nD) :
    (dats m ρ 0 c).Φ (Fin.last cfg0.N) ⊢ iprop(unscopedSems0 c ∗ own0 c ∗ Pipeline.scopedRest cfg0.spec c) := by
  rw [show (dats m ρ 0 c).Φ (Fin.last cfg0.N) = done c from rfl, scopedRest0_eq, own0_eq, unscoped0_eq]
  unfold done
  iintro ⟨⟨%f, Hr⟩, HB, HS, HR⟩
  isplitl [HB]; · iexact HB
  isplitl [HS HR]
  · isplitl [HS] <;> iassumption
  iexists f
  rw [← scr_whole]
  iexact Hr

theorem waits (c : Dev nD) : (levAts L lv : sProp 𝕄) ⊢ Pipeline.RDat.cellsWaits cfgs (dats m ρ) () 0 c :=
  Pipeline.RDat.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of device `c`'s two arrays after the run. -/
def Ends (c : Dev nD) (s : MemSt nD τ sig (Elt F)) : Prop :=
  (∃ g, Got m ρ c g ∧ s.mem ((c : Thread nD τ).loc main_v1) = k0_pay3 (posW c) (k0_pay2 (xstg m ρ c)) g)
    ∧ s.mem ((c : Thread nD τ).loc main_arg0) = m ((c : Thread nD τ).loc main_arg0)

theorem whole1 (t : Fin cfg0.N) : (cfg0.win (1 : Fin 2)).WholeAt t := by
  rw [fin_N0 t]
  decide +kernel

theorem ends_of_arr (c : Dev nD) (s : MemSt nD τ sig (Elt F))
    (h : ∀ w, (dat m ρ c).ArrAt w cfg0.N (s.mem ((cfg0.win w).arr.view.loc (c : Thread nD τ)))) : Ends m ρ c s := by
  refine ⟨?_, ?_⟩
  · obtain ⟨X, ⟨Y, -, g, hg, rfl⟩, h1⟩ := (h (1 : Fin 2)).emb_eq_of_wholeAt (whole1 t0_0)
    refine ⟨g, hg, funext fun j => ?_⟩
    exact h1 j
  · have h0 := h (0 : Fin 2)
    rw [(dat m ρ c).ArrAt_in (0 : Fin 2) rfl] at h0
    exact h0

set_option maxRecDepth 8000 in
theorem run_main : θ_run defs (onTc (τ := τ) (main (F := F))) (s₀ m ρ) (fun r => (∀ c, Ends m ρ c r.2) ∧ r.2.sem = fun _ => 0) :=
  Pipeline.RDat.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := O₀) (howed₀ := fun _ => rfl) (howedN := fun _ => rfl)
    (L := L) (lv := lv) (hL := L_of_ne) (hwaits := waits m ρ)
    (G := raw m ρ) (G' := opened m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c => ends_of_arr m ρ c s (h c).1, sem_eq_zero hs fun c => (h c).2.2⟩)

end Run

end Cert.Scan

end
-- ==== Proof.Frames.lean ====
/-
# Every device ends with its input unchanged and every counter at zero

The kernel and its reading over the extended reals are one text, so both come from the one run. The reference has no
counters.
-/

module

public import proofs.«01_k».proof.Proof.Run
public import proofs.«01_k».proof.Defs
public import proofs.«01_k».proof.Proof.Gen.Kernel
public import proofs.«01_k».proof.Proof.Gen.ReferenceIdeal.Run

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Frames

/-- The run at any float values, of each device's input and the counters only. -/
theorem frame_any : θ_run defs (onTc (τ := τ) (main (F := F))) ⟨m, fun _ => 0, ρ⟩ (fun r => (∀ c : Dev nD,
    r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_main m ρ)

/-! The two texts' functions are the same, the kernel's first. -/

theorem same_body : (Cert.Kernel.cc0_body (F := F)) = (Cert.KernelIdeal.cc0_body (F := F)) := rfl
theorem same_bodies : (Cert.Kernel.defs₀ (F := F)) = (Cert.KernelIdeal.defs₀ (F := F)) := by
  unfold Cert.Kernel.defs₀ Cert.KernelIdeal.defs₀
  refine congrArg Defs.onTc ?_
  funext l a
  match l with
  | ⟨0, _⟩ =>
    obtain ⟨t, s⟩ := a
    exact congrArg (fun b => b (win0_0.stage (s 0)) (hstage0_0 0) (win0_1.stage (s 1)) (hstage0_1 0) (Memref.whole cc0_scratch0)
      (Memref.isWhole_whole _) cc0_scratch1 cc0_scratch2) (same_body (F := F))
theorem same_defs : (Cert.Kernel.defs (F := F)) = (Cert.KernelIdeal.defs (F := F)) := congrArg (Pipeline.defs pcfgs) same_bodies

theorem frame_kernel : Cert.quiescent_Kernel := fun m ρ _ => by
  rw [same_defs]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, funext fun g => by
    rcases g with ⟨⟨_, _⟩, s⟩
    rcases s with s | s <;> exact s.elim0⟩) (Cert.ReferenceIdeal.Value.run m ρ)

end Frames

end Cert.Scan

end
-- ==== Proof.Value.lean ====
/-
# The kernel's results are the reference's, block by block

Over the extended reals device `c`'s result is block `c` of the reference's running sum of the whole array.
-/

module

public import proofs.«01_k».proof.Proof.Blocks
public import proofs.«01_k».proof.Proof.Frames

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Value

/-- The running sum down the rows of an array of `q + 1` rows, as the reference writes it. -/
def running (q : ℕ) (h : (⟨2, ![q + 1, 512]⟩ : Shape).ReduceWindows (![q + 1, 1] : Fin 2 → ℕ) ![1, 1] ![q, 0] ![0, 0] ⟨2, ![q + 1, 512]⟩)
    (x : (⟨2, ![q + 1, 512]⟩ : Shape).Idx → EReal) : (⟨2, ![q + 1, 512]⟩ : Shape).Idx → EReal :=
  Host.reduceWindowAdd (F := Idealize.ShloMosaic.Ideal) (φ := .f32) ![q + 1, 1] ![1, 1] ![q, 0] ![0, 0] x
    (broadcastInDim Cert.ReferenceIdeal.S_ ![] Cert.ReferenceIdeal.Gen.bcast_S_S_ (constant Cert.ReferenceIdeal.S_ .f32 0x00000000#32))
    h Cert.ReferenceIdeal.Gen.h_S_

/-- At each place it is the sum of the rows above. -/
theorem running_apply (q : ℕ) (h : (⟨2, ![q + 1, 512]⟩ : Shape).ReduceWindows (![q + 1, 1] : Fin 2 → ℕ) ![1, 1] ![q, 0] ![0, 0] ⟨2, ![q + 1, 512]⟩)
    (x : (⟨2, ![q + 1, 512]⟩ : Shape).Idx → EReal) (j : Fin (q + 1)) (l : Fin 512) :
    running q h x (ix2 j l) = ∑ i : Fin (q + 1), if i ≤ j then x (ix2 i l) else 0 :=
  window_sum x (fun _ => Ideal.ofBits .f32 0x00000000#32) h Cert.ReferenceIdeal.Gen.h_S_ Ideal.ofBits_zero_f32 j l

/-- The whole result. -/
def total (x : (⟨2, ![16383 + 1, 512]⟩ : Shape).Idx → EReal) : (⟨2, ![16383 + 1, 512]⟩ : Shape).Idx → EReal :=
  running 16383 Cert.ReferenceIdeal.Gen.reduceWindows_S16384x512_S16384x512_w16384s1p16383_0_w1s1p0_0 x

theorem total_apply (x : (⟨2, ![16383 + 1, 512]⟩ : Shape).Idx → EReal) (j : Fin (16383 + 1)) (l : Fin 512) :
    total x (ix2 j l) = ∑ i : Fin (16383 + 1), if i ≤ j then x (ix2 i l) else 0 := by
  unfold total
  exact running_apply 16383 _ x j l

/-- A block's place `(r, l)` is the array's place at row `r` of that block. -/
theorem block_ix2 (h : Layout.Tiles ⟨2, ![512, 512]⟩ ⟨2, ![16383 + 1, 512]⟩ 0 32) (b : Fin 32) (r l : Fin 512) :
    h.idx b (ix2 r l) = ix2 (place b r) l := by
  funext a
  refine Fin.ext ?_
  match a with
  | ⟨0, _⟩ => exact (Layout.idx_rows_val h b (ix2 r l)).1
  | ⟨1, _⟩ => exact (Layout.idx_rows_val h b (ix2 r l)).2

variable (m : (ℓ : Loc nD τ sig) → Buf (Elt Idealize.ShloMosaic.Ideal) ℓ) (ρ : Dev nD → PrngReg)

/-- The kernel's block of `x` is the whole of its operand. -/
theorem xstg_eq (c : Dev nD) : xstg m ρ c = m ((c : Thread nD τ).loc main_arg0) := by
  have start : (fun a => (win0_0.index (0 : Fin 1)) a * main_arg0.ty.shape.size a) = fun _ => 0 := funext fun a => by fin_cases a <;> decide
  exact Memref.read_access_unit_zero (Elt Idealize.ShloMosaic.Ideal) main_arg0 start (fun a => by fin_cases a <;> decide) _

/-- What device `c` writes, in terms of the whole array. -/
theorem out_block (X : (⟨2, ![16383 + 1, 512]⟩ : Shape).Idx → EReal) (h : Layout.Tiles ⟨2, ![512, 512]⟩ ⟨2, ![16383 + 1, 512]⟩ 0 32)
    (hm : ∀ c : Dev nD, m ((c : Thread nD τ).loc main_arg0) = Layout.block ⟨2, ![512, 512]⟩ ⟨2, ![16383 + 1, 512]⟩ 0 32 c X h)
    (c : Dev nD) (g : Buf (Elt Idealize.ShloMosaic.Ideal) ((c : Thread nD τ).loc cc0_scratch0)) (hg : Got m ρ c g) :
    k0_pay3 (posW c) (k0_pay2 (xstg m ρ c)) g = Layout.block ⟨2, ![512, 512]⟩ ⟨2, ![16383 + 1, 512]⟩ 0 32 c (total X) h := by
  have hx : ∀ (b : Dev nD) (k l : Fin 512), xstg m ρ b (ix2 k l) = X (ix2 (place b k) l) := fun b k l => by
    rw [xstg_eq, hm b]
    exact congrArg X (block_ix2 h b k l)
  funext i
  obtain ⟨r, l, rfl⟩ : ∃ r l : Fin 512, i = ix2 r l := ⟨i 0, i 1, funext fun a => match a with | ⟨0, _⟩ => rfl | ⟨1, _⟩ => rfl⟩
  refine (pay3_apply c _ _ r l).trans ?_
  refine Eq.trans ?_ (congrArg (total X) (block_ix2 h c r l)).symm
  rw [total_apply, sum_upto (fun i => X (ix2 i l)) c r, pay2_apply]
  refine congrArg₂ (· + ·) ?_ ?_
  · exact Finset.sum_congr rfl fun k _ => by rw [hx]
  · refine Finset.sum_congr rfl fun d _ => ?_
    by_cases hd : dnOk c d
    · rw [if_pos hd, if_pos hd]
      refine (hg d hd (ix2 d l) ((mem_row _ _).2 rfl)).trans ?_
      refine (pay1_apply _ _).trans ?_
      exact Finset.sum_congr rfl fun k _ => hx _ k l
    · rw [if_neg hd, if_neg hd]

theorem algebraic : Cert.algebraic_KernelIdeal_ReferenceIdeal := fun m g m' g' _ hm =>
  ⟨total (m' (((0 : Dev Cert.ReferenceIdeal.nD).tc : Thread Cert.ReferenceIdeal.nD Cert.ReferenceIdeal.τ).loc Cert.ReferenceIdeal.main_arg0)),
    (θ_run defs _ _).mono (fun r h c => by
      obtain ⟨⟨f, hf, e⟩, h0⟩ := h.1 c
      exact ⟨e.trans (out_block m g _ _ hm c f hf), h0⟩) (run_main m g),
    (θ_run Cert.ReferenceIdeal.defs _ _).mono (fun r h => h 0) (Cert.ReferenceIdeal.Value.run m' g')⟩

end Value

end Cert.Scan

end
-- ==== Proof.lean ====
module

public import proofs.«01_k».proof.Proof.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Scan.frame_kernel,
  Cert.Scan.frame_ideal, Cert.Scan.frame_reference, trivial, Cert.Scan.algebraic⟩

end Cert.Proof

end
